-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingIdeal_finite [hPre_finite : Cert.Pre_finite.Facts] (m : (ℓ : Loc Cert.GatingIdeal.nD Cert.GatingIdeal.τ Cert.GatingIdeal.sig) → Buf (Elt Ideal) ℓ) : Prop :=
  ∀ c : Dev Cert.GatingIdeal.nD,
    (Cert.Pre_finite.fn (F := Ideal) (m ((c.tc : Thread Cert.GatingIdeal.nD Cert.GatingIdeal.τ).loc Cert.GatingIdeal.main_arg0)) (m ((c.tc : Thread Cert.GatingIdeal.nD Cert.GatingIdeal.τ).loc Cert.GatingIdeal.main_arg1)) (m ((c.tc : Thread Cert.GatingIdeal.nD Cert.GatingIdeal.τ).loc Cert.GatingIdeal.main_arg2))) = (fun _ => 1#1)

def Pre_GatingReferenceIdeal (m : (ℓ : Loc Cert.GatingReferenceIdeal.nD Cert.GatingReferenceIdeal.τ Cert.GatingReferenceIdeal.sig) → Buf (Elt Ideal) ℓ) : Prop :=
  True

def Pre_GatingReferenceIdeal_finite [hPre_finite : Cert.Pre_finite.Facts] (m : (ℓ : Loc Cert.GatingReferenceIdeal.nD Cert.GatingReferenceIdeal.τ Cert.GatingReferenceIdeal.sig) → Buf (Elt Ideal) ℓ) : Prop :=
  ∀ c : Dev Cert.GatingReferenceIdeal.nD,
    (Cert.Pre_finite.fn (F := Ideal) (m ((c.tc : Thread Cert.GatingReferenceIdeal.nD Cert.GatingReferenceIdeal.τ).loc Cert.GatingReferenceIdeal.main_arg0)) (m ((c.tc : Thread Cert.GatingReferenceIdeal.nD Cert.GatingReferenceIdeal.τ).loc Cert.GatingReferenceIdeal.main_arg1)) (m ((c.tc : Thread Cert.GatingReferenceIdeal.nD Cert.GatingReferenceIdeal.τ).loc Cert.GatingReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2))
      ∧ r.2.sem = fun _ => 0)

def quiescent_GatingIdeal_pre_finite [hGatingIdeal : Cert.GatingIdeal.Facts] [hPre_finite : Cert.Pre_finite.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal_finite m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2))
      ∧ r.2.sem = fun _ => 0)

def quiescent_GatingReferenceIdeal_pre_finite [hGatingReferenceIdeal : Cert.GatingReferenceIdeal.Facts] [hPre_finite : Cert.Pre_finite.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal_finite m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Gating_GatingIdeal : Prop :=
  IdealRules.named_const.Statement Cert.GatingIdeal.κ "inv_hw" .f32 0x39A72F05#32 ((3136⁻¹ : ℝ) : EReal)
  ∧ IdealRules.named_const.Statement Cert.GatingIdeal.κ "mask" .f32 0xF149F2CA#32 ⊥

def algebraic_GatingIdeal_GatingReferenceIdeal_pre_finite [hGatingIdeal : Cert.GatingIdeal.Facts] [hGatingReferenceIdeal : Cert.GatingReferenceIdeal.Facts] [hPre_finite : Cert.Pre_finite.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal_finite m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)) →
    ∃ (v0 : (c : Dev Cert.GatingIdeal.nD) → Buf (Elt Ideal) ((c.tc : Thread Cert.GatingIdeal.nD Cert.GatingIdeal.τ).loc Cert.GatingIdeal.main_v2_0)) (v1 : (c : Dev Cert.GatingIdeal.nD) → Buf (Elt Ideal) ((c.tc : Thread Cert.GatingIdeal.nD Cert.GatingIdeal.τ).loc Cert.GatingIdeal.main_v2_1)) (v2 : (c : Dev Cert.GatingIdeal.nD) → Buf (Elt Ideal) ((c.tc : Thread Cert.GatingIdeal.nD Cert.GatingIdeal.τ).loc Cert.GatingIdeal.main_v2_2)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v2_0) = v0 c
          ∧ r.2.mem ((c.tc : Thread Cert.GatingIdeal.nD Cert.GatingIdeal.τ).loc Cert.GatingIdeal.main_v2_1) = v1 c
          ∧ r.2.mem ((c.tc : Thread Cert.GatingIdeal.nD Cert.GatingIdeal.τ).loc Cert.GatingIdeal.main_v2_2) = v2 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v37) = v0 c
          ∧ r.2.mem ((c.tc : Thread Cert.GatingReferenceIdeal.nD Cert.GatingReferenceIdeal.τ).loc Cert.GatingReferenceIdeal.main_v38) = v1 c
          ∧ r.2.mem ((c.tc : Thread Cert.GatingReferenceIdeal.nD Cert.GatingReferenceIdeal.τ).loc Cert.GatingReferenceIdeal.main_v39) = v2 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2))

def Claim : Prop :=
  ∃ (hKernel : Cert.Kernel.Facts) (hKernelIdeal : Cert.KernelIdeal.Facts) (hReferenceIdeal : Cert.ReferenceIdeal.Facts) (hGating : Cert.Gating.Facts) (hGatingIdeal : Cert.GatingIdeal.Facts) (hGatingReferenceIdeal : Cert.GatingReferenceIdeal.Facts) (hPre_in_range : Cert.Pre_in_range.Facts) (hPre_routed : Cert.Pre_routed.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Gating (hGating := hGating)
    ∧ quiescent_GatingIdeal (hGatingIdeal := hGatingIdeal)
    ∧ quiescent_GatingIdeal_pre_finite (hGatingIdeal := hGatingIdeal) (hPre_finite := hPre_finite)
    ∧ quiescent_GatingReferenceIdeal (hGatingReferenceIdeal := hGatingReferenceIdeal)
    ∧ quiescent_GatingReferenceIdeal_pre_finite (hGatingReferenceIdeal := hGatingReferenceIdeal) (hPre_finite := hPre_finite)
    ∧ preserves_Kernel_KernelIdeal
    ∧ algebraic_KernelIdeal_ReferenceIdeal_pre_routed (hKernelIdeal := hKernelIdeal) (hReferenceIdeal := hReferenceIdeal) (hPre_routed := hPre_routed)
    ∧ preserves_Gating_GatingIdeal
    ∧ algebraic_GatingIdeal_GatingReferenceIdeal_pre_finite (hGatingIdeal := hGatingIdeal) (hGatingReferenceIdeal := hGatingReferenceIdeal) (hPre_finite := hPre_finite)
-- ==== Pre_finite.lean ====
abbrev S8x96x56x56 : Shape := ⟨4, ![8, 96, 56, 56]⟩
abbrev S8x96 : Shape := ⟨2, ![8, 96]⟩
abbrev S8 : Shape := ⟨1, ![8]⟩
abbrev S_ : Shape := ⟨0, ![]⟩

class Facts : Prop where
  bcast_S_S8x96x56x56 : S_.BroadcastsInDim S8x96x56x56 (![] : Fin 0 → Fin S8x96x56x56.rank)
  reducesTo_S8x96x56x56_S_d0_1_2_3 : S8x96x56x56.ReducesTo [0, 1, 2, 3] S_
  h_S_ : 0 < S_.numel
  bcast_S_S8x96 : S_.BroadcastsInDim S8x96 (![] : Fin 0 → Fin S8x96.rank)
  reducesTo_S8x96_S_d0_1 : S8x96.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8x96x56x56 .f32) (main_arg1 : FVec F S8x96 .f32) (main_arg2 : FVec F S8 .f32) : IVec S_ 1 :=
  let main_v0 : FVec F S8x96x56x56 .f32 := Host.absf main_arg0
  let main_cst : FVec F S_ .f32 := constant S_ .f32 0x7F800000#32
  let main_v1 : FVec F S8x96x56x56 .f32 := broadcastInDim S8x96x56x56 ![] bcast_S_S8x96x56x56 main_cst
  let main_v2 : IVec S8x96x56x56 1 := cmpf .olt main_v0 main_v1
  let main_c : IVec S_ 1 := constantI S_ 1 1#1
  let main_v3 : IVec S_ 1 := (fun x v => Host.reduce IntOp.andi x v reducesTo_S8x96x56x56_S_d0_1_2_3 h_S_) main_v2 main_c
  let main_v4 : FVec F S8x96 .f32 := Host.absf main_arg1
  let main_cst_0 : FVec F S_ .f32 := constant S_ .f32 0x7F800000#32
  let main_v5 : FVec F S8x96 .f32 := broadcastInDim S8x96 ![] bcast_S_S8x96 main_cst_0
  let main_v6 : IVec S8x96 1 := cmpf .olt main_v4 main_v5
  let main_c_1 : IVec S_ 1 := constantI S_ 1 1#1
  let main_v7 : IVec S_ 1 := (fun x v => Host.reduce IntOp.andi x v reducesTo_S8x96_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_in_range.lean ====
abbrev S8x96x56x56 : Shape := ⟨4, ![8, 96, 56, 56]⟩
abbrev S8x96x96x3x3 : Shape := ⟨5, ![8, 96, 96, 3, 3]⟩
abbrev S8x96 : Shape := ⟨2, ![8, 96]⟩
abbrev S8x1x2 : Shape := ⟨3, ![8, 1, 2]⟩
abbrev S_ : Shape := ⟨0, ![]⟩

class Facts : Prop where
  bcast_S_S8x1x2 : S_.BroadcastsInDim S8x1x2 (![] : Fin 0 → Fin S8x1x2.rank)
  reducesTo_S8x1x2_S_d0_1_2 : S8x1x2.ReducesTo [0, 1, 2] S_
  h_S_ : 0 < S_.numel

variable [Facts]

def fn {F : FTy → Type} [FloatOps F] (main_arg0 : FVec F S8x96x56x56 .f32) (main_arg1 : FVec F S8x96x96x3x3 .f32) (main_arg2 : FVec F S8x96 .f32) (main_arg3 : FVec F S8x96 .f32) (main_arg4 : FVec F S8x96 .f32) (main_arg5 : FVec F S8x96 .f32) (main_arg6 : FVec F S8x96x96x3x3 .f32) (main_arg7 : FVec F S8x96 .f32) (main_arg8 : FVec F S8x96 .f32) (main_arg9 : FVec F S8x96 .f32) (main_arg10 : FVec F S8x96 .f32) (main_arg11 : IVec S8x1x2 32) (main_arg12 : FVec F S8x1x2 .f32) : IVec S_ 1 :=
  let main_c : IVec S_ 32 := constantI S_ 32 0#32
  let main_v0 : IVec S8x1x2 32 := broadcastInDim S8x1x2 ![] bcast_S_S8x1x2 main_c
  let main_v1 : IVec S8x1x2 1 := cmpi .sge main_arg11 main_v0
  let main_c_0 : IVec S_ 32 := constantI S_ 32 8#32
  let main_v2 : IVec S8x1x2 32 := broadcastInDim S8x1x2 ![] bcast_S_S8x1x2 main_c_0
  let main_v3 : IVec S8x1x2 1 := cmpi .slt main_arg11 main_v2
  let main_v4 : IVec S8x1x2 1 := andi main_v1 main_v3
  let main_c_1 : IVec S_ 1 := constantI S_ 1 1#1
  let main_v5 : IVec S_ 1 := (fun x v => Host.reduce IntOp.andi x v reducesTo_S8x1x2_S_d0_1_2 h_S_) main_v4 main_c_1
  main_v5
-- ==== Pre_routed.lean ====
abbrev S8x96x56x56 : Shape := ⟨4, ![8, 96, 56, 56]⟩
abbrev S8x96x96x3x3 : Shape := ⟨5, ![8, 96, 96, 3, 3]⟩
abbrev S8x96 : Shape := ⟨2, ![8, 96]⟩
abbrev S8x1x2 : Shape := ⟨3, ![8, 1, 2]⟩
abbrev S_ : Shape := ⟨0, ![]⟩
abbrev S8x1x1 : Shape := ⟨3, ![8, 1, 1]⟩
abbrev S8x1 : Shape := ⟨2, ![8, 1]⟩

class Facts : Prop where
  bcast_S_S8x1x2 : S_.BroadcastsInDim S8x1x2 (![] : Fin 0 → Fin S8x1x2.rank)
  reducesTo_S8x1x2_S_d0_1_2 : S8x1x2.ReducesTo [0, 1, 2] S_
  h_S_ : 0 < S_.numel
  slices_S8x1x2_S8x1x1_0_0_0 : S8x1x2.Slices ![0, 0, 0] S8x1x1
  shapeCasts_S8x1x1_S8x1 : S8x1x1.ShapeCasts S8x1
  slices_S8x1x2_S8x1x1_0_0_1 : S8x1x2.Slices ![0, 0, 1] S8x1x1
  reducesTo_S8x1_S_d0_1 : S8x1.ReducesTo [0, 1] S_
  bcast_S_S8x96 : S_.BroadcastsInDim S8x96 (![] : Fin 0 → Fin S8x96.rank)
  reducesTo_S8x96_S_d0_1 : S8x96.ReducesTo [0, 1] S_

variable [Facts]

def fn_part2 {F : FTy → Type} [FloatOps F] (main_arg10 : FVec F S8x96 .f32) (main_v33 : IVec S_ 1) (main_v34 : FVec F S8x96 .f32) : IVec S_ 1 :=
  let main_cst_11 : FVec F S_ .f32 := constant S_ .f32 0x7F800000#32
  let main_v35 : FVec F S8x96 .f32 := broadcastInDim S8x96 ![] bcast_S_S8x96 main_cst_11
  let main_v36 : IVec S8x96 1 := cmpf .olt main_v34 main_v35
  let main_c_12 : IVec S_ 1 := constantI S_ 1 1#1
  let main_v37 : IVec S_ 1 := (fun x v => Host.reduce IntOp.andi x v reducesTo_S8x96_S_d0_1 h_S_) main_v36 main_c_12
  let main_v38 : IVec S_ 1 := andi main_v33 main_v37
  let main_cst_13 : FVec F S_ .f32 := constant S_ .f32 0x3727C5AC#32
  let main_v39 : FVec F S8x96 .f32 := broadcastInDim S8x96 ![] bcast_S_S8x96 main_cst_13
  let main_v40 : FVec F S8x96 .f32 := addf main_arg10 main_v39
  let main_cst_14 : FVec F S_ .f32 := constant S_ .f32 0x00000000#32
  let main_v41 : FVec F S8x96 .f32 := broadcastInDim S8x96 ![] bcast_S_S8x96 main_cst_14
  let main_v42 : IVec S8x96 1 := cmpf .ogt main_v40 main_v41
  let main_c_15 : IVec S_ 1 := constantI S_ 1 1#1
  let main_v43 : IVec S_ 1 := (fun x v => Host.reduce IntOp.andi x v reducesTo_S8x96_S_d0_1 h_S_) main_v42 main_c_15
  let main_v44 : IVec S_ 1 := andi main_v38 main_v43
  main_v44

def fn_part1 {F : FTy → Type} [FloatOps F] (main_arg4 : FVec F S8x96 .f32) (main_arg5 : FVec F S8x96 .f32) (main_arg7 : FVec F S8x96 .f32) (main_arg9 : FVec F S8x96 .f32) (main_arg10 : FVec F S8x96 .f32) (main_v17 : IVec S_ 1) : IVec S_ 1 :=
  let main_v18 : FVec F S8x96 .f32 := Host.absf main_arg4
  let main_cst_4 : FVec F S_ .f32 := constant S_ .f32 0x7F800000#32
  let main_v19 : FVec F S8x96 .f32 := broadcastInDim S8x96 ![] bcast_S_S8x96 main_cst_4
  let main_v20 : IVec S8x96 1 := cmpf .olt main_v18 main_v19
  let main_c_5 : IVec S_ 1 := constantI S_ 1 1#1
  let main_v21 : IVec S_ 1 := (fun x v => Host.reduce IntOp.andi x v reducesTo_S8x96_S_d0_1 h_S_) main_v20 main_c_5
  let main_v22 : IVec S_ 1 := andi main_v17 main_v21
  let main_cst_6 : FVec F S_ .f32 := constant S_ .f32 0x3727C5AC#32
  let main_v23 : FVec F S8x96 .f32 := broadcastInDim S8x96 ![] bcast_S_S8x96 main_cst_6
  let main_v24 : FVec F S8x96 .f32 := addf main_arg5 main_v23
  let main_cst_7 : FVec F S_ .f32 := constant S_ .f32 0x00000000#32
  let main_v25 : FVec F S8x96 .f32 := broadcastInDim S8x96 ![] bcast_S_S8x96 main_cst_7
  let main_v26 : IVec S8x96 1 := cmpf .ogt main_v24 main_v25
  let main_c_8 : IVec S_ 1 := constantI S_ 1 1#1
  let main_v27 : IVec S_ 1 := (fun x v => Host.reduce IntOp.andi x v reducesTo_S8x96_S_d0_1 h_S_) main_v26 main_c_8
  let main_v28 : IVec S_ 1 := andi main_v22 main_v27
  let main_v29 : FVec F S8x96 .f32 := Host.absf main_arg7
  let main_cst_9 : FVec F S_ .f32 := constant S_ .f32 0x7F800000#32
  let main_v30 : FVec F S8x96 .f32 := broadcastInDim S8x96 ![] bcast_S_S8x96 main_cst_9
  let main_v31 : IVec S8x96 1 := cmpf .olt main_v29 main_v30
  let main_c_10 : IVec S_ 1 := constantI S_ 1 1#1
  let main_v32 : IVec S_ 1 := (fun x v => Host.reduce IntOp.andi x v reducesTo_S8x96_S_d0_1 h_S_) main_v31 main_c_10
  let main_v33 : IVec S_ 1 := andi main_v28 main_v32
  let main_v34 : FVec F S8x96 .f32 := Host.absf main_arg9
  fn_part2 (F := F) main_arg10 main_v33 main_v34

def fn {F : FTy → Type} [FloatOps F] (main_arg0 : FVec F S8x96x56x56 .f32) (main_arg1 : FVec F S8x96x96x3x3 .f32) (main_arg2 : FVec F S8x96 .f32) (main_arg3 : FVec F S8x96 .f32) (main_arg4 : FVec F S8x96 .f32) (main_arg5 : FVec F S8x96 .f32) (main_arg6 : FVec F S8x96x96x3x3 .f32) (main_arg7 : FVec F S8x96 .f32) (main_arg8 : FVec F S8x96 .f32) (main_arg9 : FVec F S8x96 .f32) (main_arg10 : FVec F S8x96 .f32) (main_arg11 : IVec S8x1x2 32) (main_arg12 : FVec F S8x1x2 .f32) : IVec S_ 1 :=
  let main_c : IVec S_ 32 := constantI S_ 32 0#32
  let main_v0 : IVec S8x1x2 32 := broadcastInDim S8x1x2 ![] bcast_S_S8x1x2 main_c
  let main_v1 : IVec S8x1x2 1 := cmpi .sge main_arg11 main_v0
  let main_c_0 : IVec S_ 32 := constantI S_ 32 8#32
  let main_v2 : IVec S8x1x2 32 := broadcastInDim S8x1x2 ![] bcast_S_S8x1x2 main_c_0
  let main_v3 : IVec S8x1x2 1 := cmpi .slt main_arg11 main_v2
  let main_v4 : IVec S8x1x2 1 := andi main_v1 main_v3
  let main_c_1 : IVec S_ 1 := constantI S_ 1 1#1
  let main_v5 : IVec S_ 1 := (fun x v => Host.reduce IntOp.andi x v reducesTo_S8x1x2_S_d0_1_2 h_S_) main_v4 main_c_1
  let main_v6 : IVec S8x1x1 32 := (extractStridedSlice S8x1x1 ![0, 0, 0] · slices_S8x1x2_S8x1x1_0_0_0) main_arg11
  let main_v7 : IVec S8x1 32 := shapeCast S8x1 main_v6 shapeCasts_S8x1x1_S8x1
  let main_v8 : IVec S8x1x1 32 := (extractStridedSlice S8x1x1 ![0, 0, 1] · slices_S8x1x2_S8x1x1_0_0_1) main_arg11
  let main_v9 : IVec S8x1 32 := shapeCast S8x1 main_v8 shapeCasts_S8x1x1_S8x1
  let main_v10 : IVec S8x1 1 := cmpi .ne main_v7 main_v9
  let main_c_2 : IVec S_ 1 := constantI S_ 1 1#1
  let main_v11 : IVec S_ 1 := (fun x v => Host.reduce IntOp.andi x v reducesTo_S8x1_S_d0_1 h_S_) main_v10 main_c_2
  let main_v12 : IVec S_ 1 := andi main_v5 main_v11
  let main_v13 : FVec F S8x96 .f32 := Host.absf main_arg2
  let main_cst : FVec F S_ .f32 := constant S_ .f32 0x7F800000#32
  let main_v14 : FVec F S8x96 .f32 := broadcastInDim S8x96 ![] bcast_S_S8x96 main_cst
  let main_v15 : IVec S8x96 1 := cmpf .olt main_v13 main_v14
  let main_c_3 : IVec S_ 1 := constantI S_ 1 1#1
  let main_v16 : IVec S_ 1 := (fun x v => Host.reduce IntOp.andi x v reducesTo_S8x96_S_d0_1 h_S_) main_v15 main_c_3
  let main_v17 : IVec S_ 1 := andi main_v12 main_v16
  fn_part1 (F := F) main_arg4 main_arg5 main_arg7 main_arg9 main_arg10 main_v17
-- ==== Kernel.lean ====
abbrev S8x96x56x56 : Shape := ⟨4, ![8, 96, 56, 56]⟩
abbrev S8x96x96x3x3 : Shape := ⟨5, ![8, 96, 96, 3, 3]⟩
abbrev S8x96 : Shape := ⟨2, ![8, 96]⟩
abbrev S8x1x2 : Shape := ⟨3, ![8, 1, 2]⟩
abbrev S1x3712 : Shape := ⟨2, ![1, 3712]⟩
abbrev S_ : Shape := ⟨0, ![]⟩
abbrev S8x96x58x64 : Shape := ⟨4, ![8, 96, 58, 64]⟩
abbrev S8x96x3712 : Shape := ⟨3, ![8, 96, 3712]⟩
abbrev S8x96x3968 : Shape := ⟨3, ![8, 96, 3968]⟩
abbrev S8x3x3x96x96 : Shape := ⟨5, ![8, 3, 3, 96, 96]⟩
abbrev S8x9x96x96 : Shape := ⟨4, ![8, 9, 96, 96]⟩
abbrev S8x96x1 : Shape := ⟨3, ![8, 96, 1]⟩
abbrev S8x96x8 : Shape := ⟨3, ![8, 96, 8]⟩
abbrev S16 : Shape := ⟨1, ![16]⟩
abbrev S1x96x3968 : Shape := ⟨3, ![1, 96, 3968]⟩
abbrev S1x9x96x96 : Shape := ⟨4, ![1, 9, 96, 96]⟩
abbrev S1 : Shape := ⟨1, ![1]⟩
abbrev S1x96x8 : Shape := ⟨3, ![1, 96, 8]⟩
abbrev S1x1x2 : Shape := ⟨3, ![1, 1, 2]⟩
abbrev S1x96x3712 : Shape := ⟨3, ![1, 96, 3712]⟩
abbrev S96x3968 : Shape := ⟨2, ![96, 3968]⟩
abbrev S96x8 : Shape := ⟨2, ![96, 8]⟩
abbrev S96x1 : Shape := ⟨2, ![96, 1]⟩
abbrev S1x1x96x96 : Shape := ⟨4, ![1, 1, 96, 96]⟩
abbrev S96x96 : Shape := ⟨2, ![96, 96]⟩
abbrev S96x3712 : Shape := ⟨2, ![96, 3712]⟩
abbrev S96x128 : Shape := ⟨2, ![96, 128]⟩
abbrev S1x2 : Shape := ⟨2, ![1, 2]⟩
abbrev S1x1 : Shape := ⟨2, ![1, 1]⟩

abbrev nBuf : Space → Nat
  | .hbm => 40
  | .vmem => 14
  | .smem => 1
  | _ => 0

abbrev bufTy : (tb : Table) → Fin (tcTables nBuf tb) → BufTy
  | .hbm, ⟨0, _⟩ => ⟨S8x96x56x56, .f32⟩
  | .hbm, ⟨1, _⟩ => ⟨S8x96x96x3x3, .f32⟩
  | .hbm, ⟨2, _⟩ => ⟨S8x96, .f32⟩
  | .hbm, ⟨3, _⟩ => ⟨S8x96, .f32⟩
  | .hbm, ⟨4, _⟩ => ⟨S8x96, .f32⟩
  | .hbm, ⟨5, _⟩ => ⟨S8x96, .f32⟩
  | .hbm, ⟨6, _⟩ => ⟨S8x96x96x3x3, .f32⟩
  | .hbm, ⟨7, _⟩ => ⟨S8x96, .f32⟩
  | .hbm, ⟨8, _⟩ => ⟨S8x96, .f32⟩
  | .hbm, ⟨9, _⟩ => ⟨S8x96, .f32⟩
  | .hbm, ⟨10, _⟩ => ⟨S8x96, .f32⟩
  | .hbm, ⟨11, _⟩ => ⟨S8x1x2, .i32⟩
  | .hbm, ⟨12, _⟩ => ⟨S8x1x2, .f32⟩
  | .hbm, ⟨13, _⟩ => ⟨S1x3712, .f32⟩
  | .hbm, ⟨14, _⟩ => ⟨S_, .i32⟩
  | .hbm, ⟨15, _⟩ => ⟨S_, .f32⟩
  | .hbm, ⟨16, _⟩ => ⟨S8x96x58x64, .f32⟩
  | .hbm, ⟨17, _⟩ => ⟨S8x96x3712, .f32⟩
  | .hbm, ⟨18, _⟩ => ⟨S_, .i32⟩
  | .hbm, ⟨19, _⟩ => ⟨S_, .f32⟩
  | .hbm, ⟨20, _⟩ => ⟨S8x96x3968, .f32⟩
  | .hbm, ⟨21, _⟩ => ⟨S8x96x3968, .bf16⟩
  | .hbm, ⟨22, _⟩ => ⟨S8x3x3x96x96, .f32⟩
  | .hbm, ⟨23, _⟩ => ⟨S8x9x96x96, .f32⟩
  | .hbm, ⟨24, _⟩ => ⟨S8x9x96x96, .bf16⟩
  | .hbm, ⟨25, _⟩ => ⟨S8x3x3x96x96, .f32⟩
  | .hbm, ⟨26, _⟩ => ⟨S8x9x96x96, .f32⟩
  | .hbm, ⟨27, _⟩ => ⟨S8x9x96x96, .bf16⟩
  | .hbm, ⟨28, _⟩ => ⟨S8x96x1, .f32⟩
  | .hbm, ⟨29, _⟩ => ⟨S8x96x1, .f32⟩
  | .hbm, ⟨30, _⟩ => ⟨S8x96x1, .f32⟩
  | .hbm, ⟨31, _⟩ => ⟨S8x96x1, .f32⟩
  | .hbm, ⟨32, _⟩ => ⟨S8x96x1, .f32⟩
  | .hbm, ⟨33, _⟩ => ⟨S8x96x1, .f32⟩
  | .hbm, ⟨34, _⟩ => ⟨S8x96x1, .f32⟩
  | .hbm, ⟨35, _⟩ => ⟨S8x96x1, .f32⟩
  | .hbm, ⟨36, _⟩ => ⟨S8x96x8, .f32⟩
  | .hbm, ⟨37, _⟩ => ⟨S8x96x3712, .f32⟩
  | .hbm, ⟨38, _⟩ => ⟨S8x96x58x64, .f32⟩
  | .hbm, ⟨39, _⟩ => ⟨S8x96x56x56, .f32⟩
  | .local _ .vmem, ⟨0, _⟩ => ⟨S1x96x3968, .bf16⟩
  | .local _ .vmem, ⟨1, _⟩ => ⟨S1x96x3968, .bf16⟩
  | .local _ .vmem, ⟨2, _⟩ => ⟨S1x9x96x96, .bf16⟩
  | .local _ .vmem, ⟨3, _⟩ => ⟨S1x9x96x96, .bf16⟩
  | .local _ .vmem, ⟨4, _⟩ => ⟨S1x9x96x96, .bf16⟩
  | .local _ .vmem, ⟨5, _⟩ => ⟨S1x9x96x96, .bf16⟩
  | .local _ .vmem, ⟨6, _⟩ => ⟨S1x96x8, .f32⟩
  | .local _ .vmem, ⟨7, _⟩ => ⟨S1x96x8, .f32⟩
  | .local _ .vmem, ⟨8, _⟩ => ⟨S1x1x2, .f32⟩
  | .local _ .vmem, ⟨9, _⟩ => ⟨S1x1x2, .f32⟩
  | .local _ .vmem, ⟨10, _⟩ => ⟨S1x3712, .f32⟩
  | .local _ .vmem, ⟨11, _⟩ => ⟨S1x96x3712, .f32⟩
  | .local _ .vmem, ⟨12, _⟩ => ⟨S1x96x3712, .f32⟩
  | .local _ .vmem, ⟨13, _⟩ => ⟨S96x3968, .bf16⟩
  | .local _ .smem, ⟨0, _⟩ => ⟨S16, .i32⟩
  | _, _ => ⟨S8x96x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_call1_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v19 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v2 : Index := Scalar.indexCast v1
  ![v2.toNat]
def k0_cond1 (i : grid0.Coords) : BitVec 1 :=
  let arg1 : BitVec 32 := BitVec.ofNat 32 (i 1).val
  let c0_i32_138 : BitVec 32 := 0#32
  let v158 : BitVec 1 := Scalar.cmpi .eq arg1 c0_i32_138
  let v159 : BitVec 32 := Scalar.extui v158
  let c0_i32_139 : BitVec 32 := 0#32
  let v160 : BitVec 1 := Scalar.cmpi .ne v159 c0_i32_139
  v160

def k0_cond2 (i : grid0.Coords) : BitVec 1 :=
  let arg1 : BitVec 32 := BitVec.ofNat 32 (i 1).val
  let c1_i32 : BitVec 32 := 1#32
  let v161 : BitVec 1 := Scalar.cmpi .eq arg1 c1_i32
  let v162 : BitVec 32 := Scalar.extui v161
  let c0_i32_140 : BitVec 32 := 0#32
  let v163 : BitVec 1 := Scalar.cmpi .ne v162 c0_i32_140
  v163

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let v2 : Index := Scalar.indexCast v1
  let v3 : BitVec 32 := pf.at 0 (Rect.unit (s := S16) ![v2.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_2 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let v2 : Index := Scalar.indexCast v1
  let v3 : BitVec 32 := pf.at 0 (Rect.unit (s := S16) ![v2.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let v2 : Index := Scalar.indexCast v1
  let v3 : BitVec 32 := pf.at 0 (Rect.unit (s := S16) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x3968 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x96x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x96x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x3712 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x96x3712 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8x96x56x56 : Shape := ⟨4, ![8, 96, 56, 56]⟩
abbrev S8x96x96x3x3 : Shape := ⟨5, ![8, 96, 96, 3, 3]⟩
abbrev S8x96 : Shape := ⟨2, ![8, 96]⟩
abbrev S8x1x2 : Shape := ⟨3, ![8, 1, 2]⟩
abbrev S8x2 : Shape := ⟨2, ![8, 2]⟩
abbrev S_ : Shape := ⟨0, ![]⟩
abbrev S8x8 : Shape := ⟨2, ![8, 8]⟩
abbrev S8 : Shape := ⟨1, ![8]⟩
abbrev S8x1 : Shape := ⟨2, ![8, 1]⟩
abbrev S8x2x1 : Shape := ⟨3, ![8, 2, 1]⟩
abbrev S8x2x2 : Shape := ⟨3, ![8, 2, 2]⟩
abbrev S1x8x96x56x56 : Shape := ⟨5, ![1, 8, 96, 56, 56]⟩
abbrev S8x8x96x56x56 : Shape := ⟨5, ![8, 8, 96, 56, 56]⟩
abbrev S8x8x96x58x58 : Shape := ⟨5, ![8, 8, 96, 58, 58]⟩
abbrev S8x96x96x1x1 : Shape := ⟨5, ![8, 96, 96, 1, 1]⟩
abbrev S8x96x96 : Shape := ⟨3, ![8, 96, 96]⟩
abbrev S8x8x56x56x96 : Shape := ⟨5, ![8, 8, 56, 56, 96]⟩
abbrev S8x1x96x1x1 : Shape := ⟨5, ![8, 1, 96, 1, 1]⟩

abbrev nBuf : Space → Nat
  | .hbm => 192
  | .vmem => 0
  | .smem => 0
  | _ => 0

abbrev hbmTy0_0 (i : Nat) : BufTy := match i % 128 with
  | 0 => ⟨S8x96x56x56, .f32⟩
  | 1 => ⟨S8x96x96x3x3, .f32⟩
  | 2 => ⟨S8x96, .f32⟩
  | 3 => ⟨S8x96, .f32⟩
  | 4 => ⟨S8x96, .f32⟩
  | 5 => ⟨S8x96, .f32⟩
  | 6 => ⟨S8x96x96x3x3, .f32⟩
  | 7 => ⟨S8x96, .f32⟩
  | 8 => ⟨S8x96, .f32⟩
  | 9 => ⟨S8x96, .f32⟩
  | 10 => ⟨S8x96, .f32⟩
  | 11 => ⟨S8x1x2, .i32⟩
  | 12 => ⟨S8x1x2, .f32⟩
  | 13 => ⟨S8x2, .i32⟩
  | 14 => ⟨S8x2, .f32⟩
  | 15 => ⟨S_, .f32⟩
  | 16 => ⟨S8x8, .f32⟩
  | 17 => ⟨S8, .i32⟩
  | 18 => ⟨S8x1, .i32⟩
  | 19 => ⟨S_, .i32⟩
  | 20 => ⟨S8x1, .i32⟩
  | 21 => ⟨S8x1, .i1⟩
  | 22 => ⟨S_, .i32⟩
  | 23 => ⟨S8x1, .i32⟩
  | 24 => ⟨S8x1, .i32⟩
  | 25 => ⟨S8x1, .i32⟩
  | 26 => ⟨S_, .i32⟩
  | 27 => ⟨S8x2, .i32⟩
  | 28 => ⟨S8x2, .i1⟩
  | 29 => ⟨S_, .i32⟩
  | 30 => ⟨S8x2, .i32⟩
  | 31 => ⟨S8x2, .i32⟩
  | 32 => ⟨S8x2, .i32⟩
  | 33 => ⟨S8x2, .i32⟩
  | 34 => ⟨S8x2x1, .i32⟩
  | 35 => ⟨S8x2x1, .i32⟩
  | 36 => ⟨S8x2x2, .i32⟩
  | 37 => ⟨S8x8, .f32⟩
  | 38 => ⟨S1x8x96x56x56, .f32⟩
  | 39 => ⟨S8x8x96x56x56, .f32⟩
  | 40 => ⟨S_, .i32⟩
  | 41 => ⟨S_, .f32⟩
  | 42 => ⟨S8x8x96x58x58, .f32⟩
  | 43 => ⟨S8x96x96x1x1, .f32⟩
  | 44 => ⟨S8x96x96, .f32⟩
  | 45 => ⟨S8x8x96x56x56, .f32⟩
  | 46 => ⟨S8x8x56x56x96, .f32⟩
  | 47 => ⟨S8x8x96x56x56, .f32⟩
  | 48 => ⟨S8x96x96x1x1, .f32⟩
  | 49 => ⟨S8x96x96, .f32⟩
  | 50 => ⟨S8x8x96x56x56, .f32⟩
  | 51 => ⟨S8x8x56x56x96, .f32⟩
  | 52 => ⟨S8x8x96x56x56, .f32⟩
  | 53 => ⟨S8x8x96x56x56, .f32⟩
  | 54 => ⟨S8x96x96x1x1, .f32⟩
  | 55 => ⟨S8x96x96, .f32⟩
  | 56 => ⟨S8x8x96x56x56, .f32⟩
  | 57 => ⟨S8x8x56x56x96, .f32⟩
  | 58 => ⟨S8x8x96x56x56, .f32⟩
  | 59 => ⟨S8x8x96x56x56, .f32⟩
  | 60 => ⟨S8x96x96x1x1, .f32⟩
  | 61 => ⟨S8x96x96, .f32⟩
  | 62 => ⟨S8x8x96x56x56, .f32⟩
  | 63 => ⟨S8x8x56x56x96, .f32⟩
  | 64 => ⟨S8x8x96x56x56, .f32⟩
  | 65 => ⟨S8x8x96x56x56, .f32⟩
  | 66 => ⟨S8x96x96x1x1, .f32⟩
  | 67 => ⟨S8x96x96, .f32⟩
  | 68 => ⟨S8x8x96x56x56, .f32⟩
  | 69 => ⟨S8x8x56x56x96, .f32⟩
  | 70 => ⟨S8x8x96x56x56, .f32⟩
  | 71 => ⟨S8x8x96x56x56, .f32⟩
  | 72 => ⟨S8x96x96x1x1, .f32⟩
  | 73 => ⟨S8x96x96, .f32⟩
  | 74 => ⟨S8x8x96x56x56, .f32⟩
  | 75 => ⟨S8x8x56x56x96, .f32⟩
  | 76 => ⟨S8x8x96x56x56, .f32⟩
  | 77 => ⟨S8x8x96x56x56, .f32⟩
  | 78 => ⟨S8x96x96x1x1, .f32⟩
  | 79 => ⟨S8x96x96, .f32⟩
  | 80 => ⟨S8x8x96x56x56, .f32⟩
  | 81 => ⟨S8x8x56x56x96, .f32⟩
  | 82 => ⟨S8x8x96x56x56, .f32⟩
  | 83 => ⟨S8x8x96x56x56, .f32⟩
  | 84 => ⟨S8x96x96x1x1, .f32⟩
  | 85 => ⟨S8x96x96, .f32⟩
  | 86 => ⟨S8x8x96x56x56, .f32⟩
  | 87 => ⟨S8x8x56x56x96, .f32⟩
  | 88 => ⟨S8x8x96x56x56, .f32⟩
  | 89 => ⟨S8x8x96x56x56, .f32⟩
  | 90 => ⟨S8x96x96x1x1, .f32⟩
  | 91 => ⟨S8x96x96, .f32⟩
  | 92 => ⟨S8x8x96x56x56, .f32⟩
  | 93 => ⟨S8x8x56x56x96, .f32⟩
  | 94 => ⟨S8x8x96x56x56, .f32⟩
  | 95 => ⟨S8x8x96x56x56, .f32⟩
  | 96 => ⟨S8x1x96x1x1, .f32⟩
  | 97 => ⟨S8x1x96x1x1, .f32⟩
  | 98 => ⟨S8x1x96x1x1, .f32⟩
  | 99 => ⟨S8x1x96x1x1, .f32⟩
  | 100 => ⟨S8x8x96x56x56, .f32⟩
  | 101 => ⟨S8x8x96x56x56, .f32⟩
  | 102 => ⟨S_, .f32⟩
  | 103 => ⟨S8x1x96x1x1, .f32⟩
  | 104 => ⟨S8x1x96x1x1, .f32⟩
  | 105 => ⟨S8x1x96x1x1, .f32⟩
  | 106 => ⟨S8x8x96x56x56, .f32⟩
  | 107 => ⟨S8x8x96x56x56, .f32⟩
  | 108 => ⟨S8x8x96x56x56, .f32⟩
  | 109 => ⟨S8x8x96x56x56, .f32⟩
  | 110 => ⟨S8x8x96x56x56, .f32⟩
  | 111 => ⟨S8x8x96x56x56, .f32⟩
  | 112 => ⟨S_, .f32⟩
  | 113 => ⟨S8x8x96x56x56, .f32⟩
  | 114 => ⟨S8x8x96x56x56, .f32⟩
  | 115 => ⟨S_, .i32⟩
  | 116 => ⟨S_, .f32⟩
  | 117 => ⟨S8x8x96x58x58, .f32⟩
  | 118 => ⟨S8x96x96x1x1, .f32⟩
  | 119 => ⟨S8x96x96, .f32⟩
  | 120 => ⟨S8x8x96x56x56, .f32⟩
  | 121 => ⟨S8x8x56x56x96, .f32⟩
  | 122 => ⟨S8x8x96x56x56, .f32⟩
  | 123 => ⟨S8x96x96x1x1, .f32⟩
  | 124 => ⟨S8x96x96, .f32⟩
  | 125 => ⟨S8x8x96x56x56, .f32⟩
  | 126 => ⟨S8x8x56x56x96, .f32⟩
  | 127 => ⟨S8x8x96x56x56, .f32⟩
  | _ => ⟨S8x96x56x56, .f32⟩

abbrev hbmTy0_1 (i : Nat) : BufTy := match i % 128 with
  | 0 => ⟨S8x8x96x56x56, .f32⟩
  | 1 => ⟨S8x96x96x1x1, .f32⟩
  | 2 => ⟨S8x96x96, .f32⟩
  | 3 => ⟨S8x8x96x56x56, .f32⟩
  | 4 => ⟨S8x8x56x56x96, .f32⟩
  | 5 => ⟨S8x8x96x56x56, .f32⟩
  | 6 => ⟨S8x8x96x56x56, .f32⟩
  | 7 => ⟨S8x96x96x1x1, .f32⟩
  | 8 => ⟨S8x96x96, .f32⟩
  | 9 => ⟨S8x8x96x56x56, .f32⟩
  | 10 => ⟨S8x8x56x56x96, .f32⟩
  | 11 => ⟨S8x8x96x56x56, .f32⟩
  | 12 => ⟨S8x8x96x56x56, .f32⟩
  | 13 => ⟨S8x96x96x1x1, .f32⟩
  | 14 => ⟨S8x96x96, .f32⟩
  | 15 => ⟨S8x8x96x56x56, .f32⟩
  | 16 => ⟨S8x8x56x56x96, .f32⟩
  | 17 => ⟨S8x8x96x56x56, .f32⟩
  | 18 => ⟨S8x8x96x56x56, .f32⟩
  | 19 => ⟨S8x96x96x1x1, .f32⟩
  | 20 => ⟨S8x96x96, .f32⟩
  | 21 => ⟨S8x8x96x56x56, .f32⟩
  | 22 => ⟨S8x8x56x56x96, .f32⟩
  | 23 => ⟨S8x8x96x56x56, .f32⟩
  | 24 => ⟨S8x8x96x56x56, .f32⟩
  | 25 => ⟨S8x96x96x1x1, .f32⟩
  | 26 => ⟨S8x96x96, .f32⟩
  | 27 => ⟨S8x8x96x56x56, .f32⟩
  | 28 => ⟨S8x8x56x56x96, .f32⟩
  | 29 => ⟨S8x8x96x56x56, .f32⟩
  | 30 => ⟨S8x8x96x56x56, .f32⟩
  | 31 => ⟨S8x96x96x1x1, .f32⟩
  | 32 => ⟨S8x96x96, .f32⟩
  | 33 => ⟨S8x8x96x56x56, .f32⟩
  | 34 => ⟨S8x8x56x56x96, .f32⟩
  | 35 => ⟨S8x8x96x56x56, .f32⟩
  | 36 => ⟨S8x8x96x56x56, .f32⟩
  | 37 => ⟨S8x96x96x1x1, .f32⟩
  | 38 => ⟨S8x96x96, .f32⟩
  | 39 => ⟨S8x8x96x56x56, .f32⟩
  | 40 => ⟨S8x8x56x56x96, .f32⟩
  | 41 => ⟨S8x8x96x56x56, .f32⟩
  | 42 => ⟨S8x8x96x56x56, .f32⟩
  | 43 => ⟨S8x1x96x1x1, .f32⟩
  | 44 => ⟨S8x1x96x1x1, .f32⟩
  | 45 => ⟨S8x1x96x1x1, .f32⟩
  | 46 => ⟨S8x1x96x1x1, .f32⟩
  | 47 => ⟨S8x8x96x56x56, .f32⟩
  | 48 => ⟨S8x8x96x56x56, .f32⟩
  | 49 => ⟨S_, .f32⟩
  | 50 => ⟨S8x1x96x1x1, .f32⟩
  | 51 => ⟨S8x1x96x1x1, .f32⟩
  | 52 => ⟨S8x1x96x1x1, .f32⟩
  | 53 => ⟨S8x8x96x56x56, .f32⟩
  | 54 => ⟨S8x8x96x56x56, .f32⟩
  | 55 => ⟨S8x8x96x56x56, .f32⟩
  | 56 => ⟨S8x8x96x56x56, .f32⟩
  | 57 => ⟨S8x8x96x56x56, .f32⟩
  | 58 => ⟨S8x8x96x56x56, .f32⟩
  | 59 => ⟨S8x8x96x56x56, .f32⟩
  | 60 => ⟨S_, .f32⟩
  | 61 => ⟨S8x8x96x56x56, .f32⟩
  | 62 => ⟨S8x8x96x56x56, .f32⟩
  | 63 => ⟨S8x96x56x56, .f32⟩
  | _ => ⟨S8x96x56x56, .f32⟩

abbrev hbmTy (i : Nat) : BufTy := match i / 128 with
  | 0 => hbmTy0_0 i
  | 1 => hbmTy0_1 i
  | _ => ⟨S8x96x56x56, .f32⟩

abbrev bufTy : (tb : Table) → Fin (tcTables nBuf tb) → BufTy
  | .hbm, ⟨i, _⟩ => hbmTy i
  | _, _ => ⟨S8x96x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_call0_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_4 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_5 : Ref sig .tc := ⟨.hbm, 112, rfl⟩
abbrev main_v91 : Ref sig .tc := ⟨.hbm, 113, rfl⟩
abbrev main_v92 : Ref sig .tc := ⟨.hbm, 114, rfl⟩
abbrev main_c_6 : Ref sig .tc := ⟨.hbm, 115, rfl⟩
abbrev main_call1_v0 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_cst_7 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_cst_8 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩

abbrev nD : Nat := 1
abbrev τ : Topo := Topo.v7x

variable {F : FTy → Type} [FloatOps F]
-- ==== Gating.lean ====
abbrev S8x96x56x56 : Shape := ⟨4, ![8, 96, 56, 56]⟩
abbrev S8x96 : Shape := ⟨2, ![8, 96]⟩
abbrev S8 : Shape := ⟨1, ![8]⟩
abbrev S8x96x3136 : Shape := ⟨3, ![8, 96, 3136]⟩
abbrev S8x1 : Shape := ⟨2, ![8, 1]⟩
abbrev S8x1x8 : Shape := ⟨3, ![8, 1, 8]⟩
abbrev S8x1x2 : Shape := ⟨3, ![8, 1, 2]⟩
abbrev S1x96x3136 : Shape := ⟨3, ![1, 96, 3136]⟩
abbrev S1x1x8 : Shape := ⟨3, ![1, 1, 8]⟩
abbrev S1x1x2 : Shape := ⟨3, ![1, 1, 2]⟩
abbrev S96x3136 : Shape := ⟨2, ![96, 3136]⟩
abbrev S96 : Shape := ⟨1, ![96]⟩
abbrev S96x1 : Shape := ⟨2, ![96, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 8
  | .vmem => 10
  | .smem => 0
  | _ => 0

abbrev bufTy : (tb : Table) → Fin (tcTables nBuf tb) → BufTy
  | .hbm, ⟨0, _⟩ => ⟨S8x96x56x56, .f32⟩
  | .hbm, ⟨1, _⟩ => ⟨S8x96, .f32⟩
  | .hbm, ⟨2, _⟩ => ⟨S8, .f32⟩
  | .hbm, ⟨3, _⟩ => ⟨S8x96x3136, .f32⟩
  | .hbm, ⟨4, _⟩ => ⟨S8x1, .f32⟩
  | .hbm, ⟨5, _⟩ => ⟨S8x1x8, .f32⟩
  | .hbm, ⟨6, _⟩ => ⟨S8x1x2, .i32⟩
  | .hbm, ⟨7, _⟩ => ⟨S8x1x2, .f32⟩
  | .local _ .vmem, ⟨0, _⟩ => ⟨S1x96x3136, .f32⟩
  | .local _ .vmem, ⟨1, _⟩ => ⟨S1x96x3136, .f32⟩
  | .local _ .vmem, ⟨2, _⟩ => ⟨S8x96, .f32⟩
  | .local _ .vmem, ⟨3, _⟩ => ⟨S8x1, .f32⟩
  | .local _ .vmem, ⟨4, _⟩ => ⟨S1x1x8, .f32⟩
  | .local _ .vmem, ⟨5, _⟩ => ⟨S1x1x8, .f32⟩
  | .local _ .vmem, ⟨6, _⟩ => ⟨S1x1x2, .i32⟩
  | .local _ .vmem, ⟨7, _⟩ => ⟨S1x1x2, .i32⟩
  | .local _ .vmem, ⟨8, _⟩ => ⟨S1x1x2, .f32⟩
  | .local _ .vmem, ⟨9, _⟩ => ⟨S1x1x2, .f32⟩
  | _, _ => ⟨S8x96x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatingIdeal.lean ====
variable {F : FTy → Type} [FloatOps F] [Named F]
def κ : String → Option EReal := fun
  | "inv_hw" => some ((3136⁻¹ : ℝ) : EReal)
  | "mask" => some ⊥
  | _ => none
-- ==== GatingReferenceIdeal.lean ====
abbrev S8x96x56x56 : Shape := ⟨4, ![8, 96, 56, 56]⟩
abbrev S8x96 : Shape := ⟨2, ![8, 96]⟩
abbrev S8 : Shape := ⟨1, ![8]⟩
abbrev S_ : Shape := ⟨0, ![]⟩
abbrev S96x8 : Shape := ⟨2, ![96, 8]⟩
abbrev S8x8 : Shape := ⟨2, ![8, 8]⟩
abbrev S1x8 : Shape := ⟨2, ![1, 8]⟩
abbrev S8x2 : Shape := ⟨2, ![8, 2]⟩
abbrev S8x1 : Shape := ⟨2, ![8, 1]⟩
abbrev S8x2x1 : Shape := ⟨3, ![8, 2, 1]⟩
abbrev S8x2x2 : Shape := ⟨3, ![8, 2, 2]⟩
abbrev S8x1x8 : Shape := ⟨3, ![8, 1, 8]⟩
abbrev S8x1x2 : Shape := ⟨3, ![8, 1, 2]⟩

abbrev nBuf : Space → Nat
  | .hbm => 55
  | .vmem => 0
  | .smem => 0
  | _ => 0

abbrev bufTy : (tb : Table) → Fin (tcTables nBuf tb) → BufTy
  | .hbm, ⟨0, _⟩ => ⟨S8x96x56x56, .f32⟩
  | .hbm, ⟨1, _⟩ => ⟨S8x96, .f32⟩
  | .hbm, ⟨2, _⟩ => ⟨S8, .f32⟩
  | .hbm, ⟨3, _⟩ => ⟨S_, .f32⟩
  | .hbm, ⟨4, _⟩ => ⟨S8x96, .f32⟩
  | .hbm, ⟨5, _⟩ => ⟨S_, .f32⟩
  | .hbm, ⟨6, _⟩ => ⟨S8x96, .f32⟩
  | .hbm, ⟨7, _⟩ => ⟨S8x96, .f32⟩
  | .hbm, ⟨8, _⟩ => ⟨S96x8, .f32⟩
  | .hbm, ⟨9, _⟩ => ⟨S8x8, .f32⟩
  | .hbm, ⟨10, _⟩ => ⟨S1x8, .f32⟩
  | .hbm, ⟨11, _⟩ => ⟨S8x8, .f32⟩
  | .hbm, ⟨12, _⟩ => ⟨S8x8, .f32⟩
  | .hbm, ⟨13, _⟩ => ⟨S8x2, .f32⟩
  | .hbm, ⟨14, _⟩ => ⟨S8x2, .i32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8x1, .f32⟩
  | .hbm, ⟨21, _⟩ => ⟨S8x2, .f32⟩
  | .hbm, ⟨22, _⟩ => ⟨S8x2, .f32⟩
  | .hbm, ⟨23, _⟩ => ⟨S8x2, .f32⟩
  | .hbm, ⟨24, _⟩ => ⟨S_, .f32⟩
  | .hbm, ⟨25, _⟩ => ⟨S8, .f32⟩
  | .hbm, ⟨26, _⟩ => ⟨S8x1, .f32⟩
  | .hbm, ⟨27, _⟩ => ⟨S8x2, .f32⟩
  | .hbm, ⟨28, _⟩ => ⟨S8x2, .f32⟩
  | .hbm, ⟨29, _⟩ => ⟨S_, .f32⟩
  | .hbm, ⟨30, _⟩ => ⟨S8x8, .f32⟩
  | .hbm, ⟨31, _⟩ => ⟨S8, .i32⟩
  | .hbm, ⟨32, _⟩ => ⟨S8x1, .i32⟩
  | .hbm, ⟨33, _⟩ => ⟨S_, .i32⟩
  | .hbm, ⟨34, _⟩ => ⟨S8x1, .i32⟩
  | .hbm, ⟨35, _⟩ => ⟨S8x1, .i1⟩
  | .hbm, ⟨36, _⟩ => ⟨S_, .i32⟩
  | .hbm, ⟨37, _⟩ => ⟨S8x1, .i32⟩
  | .hbm, ⟨38, _⟩ => ⟨S8x1, .i32⟩
  | .hbm, ⟨39, _⟩ => ⟨S8x1, .i32⟩
  | .hbm, ⟨40, _⟩ => ⟨S_, .i32⟩
  | .hbm, ⟨41, _⟩ => ⟨S8x2, .i32⟩
  | .hbm, ⟨42, _⟩ => ⟨S8x2, .i1⟩
  | .hbm, ⟨43, _⟩ => ⟨S_, .i32⟩
  | .hbm, ⟨44, _⟩ => ⟨S8x2, .i32⟩
  | .hbm, ⟨45, _⟩ => ⟨S8x2, .i32⟩
  | .hbm, ⟨46, _⟩ => ⟨S8x2, .i32⟩
  | .hbm, ⟨47, _⟩ => ⟨S8x2, .i32⟩
  | .hbm, ⟨48, _⟩ => ⟨S8x2x1, .i32⟩
  | .hbm, ⟨49, _⟩ => ⟨S8x2x1, .i32⟩
  | .hbm, ⟨50, _⟩ => ⟨S8x2x2, .i32⟩
  | .hbm, ⟨51, _⟩ => ⟨S8x8, .f32⟩
  | .hbm, ⟨52, _⟩ => ⟨S8x1x8, .f32⟩
  | .hbm, ⟨53, _⟩ => ⟨S8x1x2, .i32⟩
  | .hbm, ⟨54, _⟩ => ⟨S8x1x2, .f32⟩
  | _, _ => ⟨S8x96x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.RefOps.lean ====
/-
  The run of the expert call's reference: its operations in six stretches, and what each leaves.
-/
module

public import proofs.«01_k».proof.Proof.Gen.ReferenceIdeal
public import Idealize.ShloMosaic.Lib.StableHlo.Run
public import Idealize.ShloMosaic.Lib.StableHlo.RunRead
public import Idealize.ShloMosaic.Lib.Quiescent

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages as functions of their arrays -/

/-- Two columns of indices side by side. -/
def refPairs (a b : IVec S8x2x1 32) : IVec S8x2x2 32 :=
  concatenate S8x2x2 2 [⟨S8x2x1, a⟩, ⟨S8x2x1, b⟩] concatenates_S8x2x1_S8x2x1_S8x2x2_d2

/-- Where the weights go: row, expert. -/
def refIdx (ti : IVec S8x1x2 32) : IVec S8x2x2 32 :=
  let v0 : IVec S8x2 32 := shapeCast S8x2 ti shapeCasts_S8x1x2_S8x2
  let v4 : IVec S8x1 32 := broadcastInDim S8x1 ![0] bcast_S8_S8x1_0 (iotaInDim S8 32 0)
  let v9 : IVec S8x1 32 := select (cmpi .slt v4 (broadcastInDim S8x1 ![] bcast_S_S8x1 (constantI S_ 32 0#32))) (addi v4 (broadcastInDim S8x1 ![] bcast_S_S8x1 (constantI S_ 32 8#32))) v4
  let v14 : IVec S8x2 32 := select (cmpi .slt v0 (broadcastInDim S8x2 ![] bcast_S_S8x2 (constantI S_ 32 0#32))) (addi v0 (broadcastInDim S8x2 ![] bcast_S_S8x2 (constantI S_ 32 8#32))) v0
  refPairs (broadcastInDim S8x2x1 ![0, 1] bcast_S8x2_S8x2x1_0_1 (broadcastInDim S8x2 ![0, 1] bcast_S8x1_S8x2_0_1 v9)) (broadcastInDim S8x2x1 ![0, 1] bcast_S8x2_S8x2x1_0_1 v14)

/-- The weight of every expert in every row. -/
def refW (ti : IVec S8x1x2 32) (tw : FVec F S8x1x2 .f32) : FVec F S8x8 .f32 :=
  Host.scatter scatter_S8x8_S8x2x2_S8x2_n_01_01_2 (fun _ b => b) (broadcastInDim S8x8 ![] bcast_S_S8x8 (constant S_ .f32 0x00000000#32)) (refIdx ti)
    (shapeCast S8x2 tw shapeCasts_S8x1x2_S8x2)

/-- The input, for every expert. -/
def refXe (x : FVec F S8x96x56x56 .f32) : FVec F S8x8x96x56x56 .f32 :=
  broadcastInDim S8x8x96x56x56 ![0, 1, 2, 3, 4] bcast_S1x8x96x56x56_S8x8x96x56x56_0_1_2_3_4
    (broadcastInDim S1x8x96x56x56 ![1, 2, 3, 4] bcast_S8x96x56x56_S1x8x96x56x56_1_2_3_4 x)

/-- One zero row and column around. -/
def refPad (x : FVec F S8x8x96x56x56 .f32) : FVec F S8x8x96x58x58 .f32 :=
  pad S8x8x96x58x58 ![0, 0, 0, 1, 1] ![0, 0, 0, 1, 1] ![0, 0, 0, 0, 0] x (sitofp .f32 (constantI S_ 32 0#32)) pads_S8x8x96x56x56_S8x8x96x58x58_000_000_000_110_110 h_S_

/-- One tap of the convolution: the image from row `i` and column `j` on, times the weights at `(i, j)`. -/
def refTap (i j : ℕ) (hx : S8x8x96x58x58.Slices ![0, 0, 0, i, j] S8x8x96x56x56) (hw : S8x96x96x3x3.Slices ![0, 0, 0, i, j] S8x96x96x1x1)
    (xp : FVec F S8x8x96x58x58 .f32) (w : FVec F S8x96x96x3x3 .f32) : FVec F S8x8x96x56x56 .f32 :=
  transpose S8x8x96x56x56 [0, 1, 4, 2, 3]
    (Host.dotGeneral dot_S8x8x96x56x56_S8x96x96_S8x8x56x56x96_2_2_134_1_0_0 none (extractStridedSlice S8x8x96x56x56 ![0, 0, 0, i, j] xp hx)
      (shapeCast S8x96x96 (extractStridedSlice S8x96x96x1x1 ![0, 0, 0, i, j] w hw) shapeCasts_S8x96x96x1x1_S8x96x96))
    transposes_S8x8x56x56x96_S8x8x96x56x56_0_1_4_2_3

/-- The convolution: the nine taps added from the first on. -/
def refConv (xp : FVec F S8x8x96x58x58 .f32) (w : FVec F S8x96x96x3x3 .f32) : FVec F S8x8x96x56x56 .f32 :=
  addf (addf (addf (addf (addf (addf (addf (addf (refTap 0 0 slices_S8x8x96x58x58_S8x8x96x56x56_0_0_0_0_0 slices_S8x96x96x3x3_S8x96x96x1x1_0_0_0_0_0 xp w)
    (refTap 0 1 slices_S8x8x96x58x58_S8x8x96x56x56_0_0_0_0_1 slices_S8x96x96x3x3_S8x96x96x1x1_0_0_0_0_1 xp w))
    (refTap 0 2 slices_S8x8x96x58x58_S8x8x96x56x56_0_0_0_0_2 slices_S8x96x96x3x3_S8x96x96x1x1_0_0_0_0_2 xp w))
    (refTap 1 0 slices_S8x8x96x58x58_S8x8x96x56x56_0_0_0_1_0 slices_S8x96x96x3x3_S8x96x96x1x1_0_0_0_1_0 xp w))
    (refTap 1 1 slices_S8x8x96x58x58_S8x8x96x56x56_0_0_0_1_1 slices_S8x96x96x3x3_S8x96x96x1x1_0_0_0_1_1 xp w))
    (refTap 1 2 slices_S8x8x96x58x58_S8x8x96x56x56_0_0_0_1_2 slices_S8x96x96x3x3_S8x96x96x1x1_0_0_0_1_2 xp w))
    (refTap 2 0 slices_S8x8x96x58x58_S8x8x96x56x56_0_0_0_2_0 slices_S8x96x96x3x3_S8x96x96x1x1_0_0_0_2_0 xp w))
    (refTap 2 1 slices_S8x8x96x58x58_S8x8x96x56x56_0_0_0_2_1 slices_S8x96x96x3x3_S8x96x96x1x1_0_0_0_2_1 xp w))
    (refTap 2 2 slices_S8x8x96x58x58_S8x8x96x56x56_0_0_0_2_2 slices_S8x96x96x3x3_S8x96x96x1x1_0_0_0_2_2 xp w)

/-- The batch normalisation. -/
def refBn (acc : FVec F S8x8x96x56x56 .f32) (g b mn v : FVec F S8x96 .f32) : FVec F S8x8x96x56x56 .f32 :=
  addf (mulf (Host.divf (subf acc (broadcastInDim S8x8x96x56x56 ![0, 1, 2, 3, 4] bcast_S8x1x96x1x1_S8x8x96x56x56_0_1_2_3_4 (shapeCast S8x1x96x1x1 mn shapeCasts_S8x96_S8x1x96x1x1)))
      (broadcastInDim S8x8x96x56x56 ![0, 1, 2, 3, 4] bcast_S8x1x96x1x1_S8x8x96x56x56_0_1_2_3_4 (Host.sqrt (addf (shapeCast S8x1x96x1x1 v shapeCasts_S8x96_S8x1x96x1x1) (broadcastInDim S8x1x96x1x1 ![] bcast_S_S8x1x96x1x1 (constant S_ .f32 0x3727C5AC#32))))))
      (broadcastInDim S8x8x96x56x56 ![0, 1, 2, 3, 4] bcast_S8x1x96x1x1_S8x8x96x56x56_0_1_2_3_4 (shapeCast S8x1x96x1x1 g shapeCasts_S8x96_S8x1x96x1x1)))
    (broadcastInDim S8x8x96x56x56 ![0, 1, 2, 3, 4] bcast_S8x1x96x1x1_S8x8x96x56x56_0_1_2_3_4 (shapeCast S8x1x96x1x1 b shapeCasts_S8x96_S8x1x96x1x1))

/-- The positive part. -/
def refRelu (y : FVec F S8x8x96x56x56 .f32) : FVec F S8x8x96x56x56 .f32 :=
  maximumf y (broadcastInDim S8x8x96x56x56 ![] bcast_S_S8x8x96x56x56 (constant S_ .f32 0x00000000#32))

/-- The experts' outputs in their weights. -/
def refMix (y : FVec F S8x8x96x56x56 .f32) (w : FVec F S8x8 .f32) : FVec F S8x96x56x56 .f32 :=
  Host.dotGeneral dot_S8x8x96x56x56_S8x8_S8x96x56x56_0_1_234_n_1_0 none y w

/-- The whole reference. -/
def refAll (x : FVec F S8x96x56x56 .f32) (w1 : FVec F S8x96x96x3x3 .f32) (g1 b1 m1 v1 : FVec F S8x96 .f32) (w2 : FVec F S8x96x96x3x3 .f32)
    (g2 b2 m2 v2 : FVec F S8x96 .f32) (ti : IVec S8x1x2 32) (tw : FVec F S8x1x2 .f32) : FVec F S8x96x56x56 .f32 :=
  refMix (refRelu (addf (refBn (refConv (refPad (refRelu (refBn (refConv (refPad (refXe x)) w1) g1 b1 m1 v1))) w2) g2 b2 m2 v2) (refXe x))) (refW ti tw)

/-! ## The operations -/

theorem after_app (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

def opsA : List (HloOp τ sig (Elt F)) :=
  [ reshape main_arg11 main_v0 (rfl : (.i32 : EltTy) = .i32) shapeCasts_S8x1x2_S8x2,
    reshape main_arg12 main_v1 (rfl : (.f32 : EltTy) = .f32) shapeCasts_S8x1x2_S8x2,
    nullary main_cst (constant S_ .f32 0x00000000#32),
    unary main_cst main_v2 (broadcastInDim S8x8 ![] bcast_S_S8x8 : (⟨S_, .f32⟩ : BufTy).Contents (Elt F) → (⟨S8x8, .f32⟩ : BufTy).Contents (Elt F)),
    nullary main_v3 (iotaInDim S8 32 0),
    unary main_v3 main_v4 (broadcastInDim S8x1 ![0] bcast_S8_S8x1_0 : (⟨S8, .i32⟩ : BufTy).Contents (Elt F) → (⟨S8x1, .i32⟩ : BufTy).Contents (Elt F)),
    nullary main_c (constantI S_ 32 0#32),
    unary main_c main_v5 (broadcastInDim S8x1 ![] bcast_S_S8x1 : (⟨S_, .i32⟩ : BufTy).Contents (Elt F) → (⟨S8x1, .i32⟩ : BufTy).Contents (Elt F)),
    binary main_v4 main_v5 main_v6 (cmpi .slt : (⟨S8x1, .i32⟩ : BufTy).Contents (Elt F) → (⟨S8x1, .i32⟩ : BufTy).Contents (Elt F) → (⟨S8x1, .i1⟩ : BufTy).Contents (Elt F)),
    nullary main_c_0 (constantI S_ 32 8#32),
    unary main_c_0 main_v7 (broadcastInDim S8x1 ![] bcast_S_S8x1 : (⟨S_, .i32⟩ : BufTy).Contents (Elt F) → (⟨S8x1, .i32⟩ : BufTy).Contents (Elt F)),
    binary main_v4 main_v7 main_v8 (addi : (⟨S8x1, .i32⟩ : BufTy).Contents (Elt F) → (⟨S8x1, .i32⟩ : BufTy).Contents (Elt F) → (⟨S8x1, .i32⟩ : BufTy).Contents (Elt F)),
    ternary main_v6 main_v8 main_v4 main_v9 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    nullary main_c_1 (constantI S_ 32 0#32),
    unary main_c_1 main_v10 (broadcastInDim S8x2 ![] bcast_S_S8x2 : (⟨S_, .i32⟩ : BufTy).Contents (Elt F) → (⟨S8x2, .i32⟩ : BufTy).Contents (Elt F)),
    binary main_v0 main_v10 main_v11 (cmpi .slt : (⟨S8x2, .i32⟩ : BufTy).Contents (Elt F) → (⟨S8x2, .i32⟩ : BufTy).Contents (Elt F) → (⟨S8x2, .i1⟩ : BufTy).Contents (Elt F)),
    nullary main_c_2 (constantI S_ 32 8#32),
    unary main_c_2 main_v12 (broadcastInDim S8x2 ![] bcast_S_S8x2 : (⟨S_, .i32⟩ : BufTy).Contents (Elt F) → (⟨S8x2, .i32⟩ : BufTy).Contents (Elt F)),
    binary main_v0 main_v12 main_v13 (addi : (⟨S8x2, .i32⟩ : BufTy).Contents (Elt F) → (⟨S8x2, .i32⟩ : BufTy).Contents (Elt F) → (⟨S8x2, .i32⟩ : BufTy).Contents (Elt F)),
    ternary main_v11 main_v13 main_v0 main_v14 (select : (⟨S8x2, .i1⟩ : BufTy).Contents (Elt F) → (⟨S8x2, .i32⟩ : BufTy).Contents (Elt F) → (⟨S8x2, .i32⟩ : BufTy).Contents (Elt F) → (⟨S8x2, .i32⟩ : BufTy).Contents (Elt F)),
    unary main_v9 main_v15 (broadcastInDim S8x2 ![0, 1] bcast_S8x1_S8x2_0_1 : (⟨S8x1, .i32⟩ : BufTy).Contents (Elt F) → (⟨S8x2, .i32⟩ : BufTy).Contents (Elt F)),
    unary main_v15 main_v16 (broadcastInDim S8x2x1 ![0, 1] bcast_S8x2_S8x2x1_0_1 : (⟨S8x2, .i32⟩ : BufTy).Contents (Elt F) → (⟨S8x2x1, .i32⟩ : BufTy).Contents (Elt F)),
    unary main_v14 main_v17 (broadcastInDim S8x2x1 ![0, 1] bcast_S8x2_S8x2x1_0_1 : (⟨S8x2, .i32⟩ : BufTy).Contents (Elt F) → (⟨S8x2x1, .i32⟩ : BufTy).Contents (Elt F)),
    binary main_v16 main_v17 main_v18 refPairs,
    ternary main_v2 main_v18 main_v1 main_v19 ((fun x i u => Host.scatter scatter_S8x8_S8x2x2_S8x2_n_01_01_2 (fun _ b => b) x i u) : (⟨S8x8, .f32⟩ : BufTy).Contents (Elt F) → (⟨S8x2x2, .i32⟩ : BufTy).Contents (Elt F) → (⟨S8x2, .f32⟩ : BufTy).Contents (Elt F) → (⟨S8x8, .f32⟩ : BufTy).Contents (Elt F)) ]

def wrA : List (Ref sig .tc) := [main_v0, main_v1, main_cst, main_v2, main_v3, main_v4, main_c, main_v5, main_v6, main_c_0, main_v7, main_v8, main_v9, main_c_1, main_v10, main_v11, main_c_2, main_v12, main_v13, main_v14, main_v15, main_v16, main_v17, main_v18, main_v19]

theorem writesA : (opsA : List (HloOp τ sig (Elt F))).map HloOp.writes = wrA.map fun w => {Proc.devRef (τ := τ) .tc w} := rfl

theorem keepA (V : Valuation τ sig (Elt F)) (r : Ref sig .tc) (hr : r ∉ wrA) : after opsA V (Proc.devRef .tc r) = V (Proc.devRef .tc r) :=
  after_unwritten wrA writesA hr V

theorem subA : (opsA : List (HloOp τ sig (Elt F))).Forall fun op => op.bufs ⊆ tcRefs τ sig :=
  ⟨reshape_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub ..⟩

def opsB : List (HloOp τ sig (Elt F)) :=
  [ unary main_arg0 main_v20 (broadcastInDim S1x8x96x56x56 ![1, 2, 3, 4] bcast_S8x96x56x56_S1x8x96x56x56_1_2_3_4 : (⟨S8x96x56x56, .f32⟩ : BufTy).Contents (Elt F) → (⟨S1x8x96x56x56, .f32⟩ : BufTy).Contents (Elt F)),
    unary main_v20 main_v21 (broadcastInDim S8x8x96x56x56 ![0, 1, 2, 3, 4] bcast_S1x8x96x56x56_S8x8x96x56x56_0_1_2_3_4 : (⟨S1x8x96x56x56, .f32⟩ : BufTy).Contents (Elt F) → (⟨S8x8x96x56x56, .f32⟩ : BufTy).Contents (Elt F)),
    nullary main_c_3 (constantI S_ 32 0#32),
    TRef.unary (TRef.of (T := ⟨S_, .i32⟩) main_c_3) (TRef.of (T := ⟨S_, .f32⟩) main_call0_v0) (sitofp .f32),
    TRef.binary (TRef.of (T := ⟨S8x8x96x56x56, .f32⟩) main_v21) (TRef.of (T := ⟨S_, .f32⟩) main_call0_v0) (TRef.of (T := ⟨S8x8x96x58x58, .f32⟩) main_v22) (fun x v => pad S8x8x96x58x58 ![0, 0, 0, 1, 1] ![0, 0, 0, 1, 1] ![0, 0, 0, 0, 0] x v pads_S8x8x96x56x56_S8x8x96x58x58_000_000_000_110_110 h_S_) ]

def wrB : List (Ref sig .tc) := [main_v20, main_v21, main_c_3, main_call0_v0, main_v22]

theorem writesB : (opsB : List (HloOp τ sig (Elt F))).map HloOp.writes = wrB.map fun w => {Proc.devRef (τ := τ) .tc w} := rfl

theorem keepB (V : Valuation τ sig (Elt F)) (r : Ref sig .tc) (hr : r ∉ wrB) : after opsB V (Proc.devRef .tc r) = V (Proc.devRef .tc r) :=
  after_unwritten wrB writesB hr V

theorem subB : (opsB : List (HloOp τ sig (Elt F))).Forall fun op => op.bufs ⊆ tcRefs τ sig :=
  ⟨unary_bufs_sub .., unary_bufs_sub .., nullary_bufs_sub .., unary_bufs_sub .., binary_bufs_sub ..⟩

def opsC1t0 : List (HloOp τ sig (Elt F)) :=
  [ unary main_arg1 main_v23 ((extractStridedSlice S8x96x96x1x1 ![0, 0, 0, 0, 0] · slices_S8x96x96x3x3_S8x96x96x1x1_0_0_0_0_0) : (⟨S8x96x96x3x3, .f32⟩ : BufTy).Contents (Elt F) → (⟨S8x96x96x1x1, .f32⟩ : BufTy).Contents (Elt F)),
    reshape main_v23 main_v24 (rfl : (.f32 : EltTy) = .f32) shapeCasts_S8x96x96x1x1_S8x96x96,
    unary main_v22 main_v25 ((extractStridedSlice S8x8x96x56x56 ![0, 0, 0, 0, 0] · slices_S8x8x96x58x58_S8x8x96x56x56_0_0_0_0_0) : (⟨S8x8x96x58x58, .f32⟩ : BufTy).Contents (Elt F) → (⟨S8x8x96x56x56, .f32⟩ : BufTy).Contents (Elt F)),
    binary main_v25 main_v24 main_v26 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v26 main_v27 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)) ]

def wrC1t0 : List (Ref sig .tc) := [main_v23, main_v24, main_v25, main_v26, main_v27]

theorem writesC1t0 : (opsC1t0 : List (HloOp τ sig (Elt F))).map HloOp.writes = wrC1t0.map fun w => {Proc.devRef (τ := τ) .tc w} := rfl

theorem keepC1t0 (V : Valuation τ sig (Elt F)) (r : Ref sig .tc) (hr : r ∉ wrC1t0) : after opsC1t0 V (Proc.devRef .tc r) = V (Proc.devRef .tc r) :=
  after_unwritten wrC1t0 writesC1t0 hr V

theorem subC1t0 : (opsC1t0 : List (HloOp τ sig (Elt F))).Forall fun op => op.bufs ⊆ tcRefs τ sig :=
  ⟨unary_bufs_sub .., reshape_bufs_sub .., unary_bufs_sub .., binary_bufs_sub .., unary_bufs_sub ..⟩

def opsC1t1 : List (HloOp τ sig (Elt F)) :=
  [ unary main_arg1 main_v28 ((extractStridedSlice S8x96x96x1x1 ![0, 0, 0, 0, 1] · slices_S8x96x96x3x3_S8x96x96x1x1_0_0_0_0_1) : (⟨S8x96x96x3x3, .f32⟩ : BufTy).Contents (Elt F) → (⟨S8x96x96x1x1, .f32⟩ : BufTy).Contents (Elt F)),
    reshape main_v28 main_v29 (rfl : (.f32 : EltTy) = .f32) shapeCasts_S8x96x96x1x1_S8x96x96,
    unary main_v22 main_v30 ((extractStridedSlice S8x8x96x56x56 ![0, 0, 0, 0, 1] · slices_S8x8x96x58x58_S8x8x96x56x56_0_0_0_0_1) : (⟨S8x8x96x58x58, .f32⟩ : BufTy).Contents (Elt F) → (⟨S8x8x96x56x56, .f32⟩ : BufTy).Contents (Elt F)),
    binary main_v30 main_v29 main_v31 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v31 main_v32 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v27 main_v32 main_v33 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC1t1 : List (Ref sig .tc) := [main_v28, main_v29, main_v30, main_v31, main_v32, main_v33]

theorem writesC1t1 : (opsC1t1 : List (HloOp τ sig (Elt F))).map HloOp.writes = wrC1t1.map fun w => {Proc.devRef (τ := τ) .tc w} := rfl

theorem keepC1t1 (V : Valuation τ sig (Elt F)) (r : Ref sig .tc) (hr : r ∉ wrC1t1) : after opsC1t1 V (Proc.devRef .tc r) = V (Proc.devRef .tc r) :=
  after_unwritten wrC1t1 writesC1t1 hr V

theorem subC1t1 : (opsC1t1 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC1t2 : List (HloOp τ sig (Elt F)) :=
  [ unary main_arg1 main_v34 ((extractStridedSlice S8x96x96x1x1 ![0, 0, 0, 0, 2] · slices_S8x96x96x3x3_S8x96x96x1x1_0_0_0_0_2) : (⟨S8x96x96x3x3, .f32⟩ : BufTy).Contents (Elt F) → (⟨S8x96x96x1x1, .f32⟩ : BufTy).Contents (Elt F)),
    reshape main_v34 main_v35 (rfl : (.f32 : EltTy) = .f32) shapeCasts_S8x96x96x1x1_S8x96x96,
    unary main_v22 main_v36 ((extractStridedSlice S8x8x96x56x56 ![0, 0, 0, 0, 2] · slices_S8x8x96x58x58_S8x8x96x56x56_0_0_0_0_2) : (⟨S8x8x96x58x58, .f32⟩ : BufTy).Contents (Elt F) → (⟨S8x8x96x56x56, .f32⟩ : BufTy).Contents (Elt F)),
    binary main_v36 main_v35 main_v37 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v37 main_v38 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v33 main_v38 main_v39 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC1t2 : List (Ref sig .tc) := [main_v34, main_v35, main_v36, main_v37, main_v38, main_v39]

theorem writesC1t2 : (opsC1t2 : List (HloOp τ sig (Elt F))).map HloOp.writes = wrC1t2.map fun w => {Proc.devRef (τ := τ) .tc w} := rfl

theorem keepC1t2 (V : Valuation τ sig (Elt F)) (r : Ref sig .tc) (hr : r ∉ wrC1t2) : after opsC1t2 V (Proc.devRef .tc r) = V (Proc.devRef .tc r) :=
  after_unwritten wrC1t2 writesC1t2 hr V

theorem subC1t2 : (opsC1t2 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC1t3 : List (HloOp τ sig (Elt F)) :=
  [ unary main_arg1 main_v40 ((extractStridedSlice S8x96x96x1x1 ![0, 0, 0, 1, 0] · slices_S8x96x96x3x3_S8x96x96x1x1_0_0_0_1_0) : (⟨S8x96x96x3x3, .f32⟩ : BufTy).Contents (Elt F) → (⟨S8x96x96x1x1, .f32⟩ : BufTy).Contents (Elt F)),
    reshape main_v40 main_v41 (rfl : (.f32 : EltTy) = .f32) shapeCasts_S8x96x96x1x1_S8x96x96,
    unary main_v22 main_v42 ((extractStridedSlice S8x8x96x56x56 ![0, 0, 0, 1, 0] · slices_S8x8x96x58x58_S8x8x96x56x56_0_0_0_1_0) : (⟨S8x8x96x58x58, .f32⟩ : BufTy).Contents (Elt F) → (⟨S8x8x96x56x56, .f32⟩ : BufTy).Contents (Elt F)),
    binary main_v42 main_v41 main_v43 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v43 main_v44 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v39 main_v44 main_v45 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC1t3 : List (Ref sig .tc) := [main_v40, main_v41, main_v42, main_v43, main_v44, main_v45]

theorem writesC1t3 : (opsC1t3 : List (HloOp τ sig (Elt F))).map HloOp.writes = wrC1t3.map fun w => {Proc.devRef (τ := τ) .tc w} := rfl

theorem keepC1t3 (V : Valuation τ sig (Elt F)) (r : Ref sig .tc) (hr : r ∉ wrC1t3) : after opsC1t3 V (Proc.devRef .tc r) = V (Proc.devRef .tc r) :=
  after_unwritten wrC1t3 writesC1t3 hr V

theorem subC1t3 : (opsC1t3 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC1t4 : List (HloOp τ sig (Elt F)) :=
  [ unary main_arg1 main_v46 ((extractStridedSlice S8x96x96x1x1 ![0, 0, 0, 1, 1] · slices_S8x96x96x3x3_S8x96x96x1x1_0_0_0_1_1) : (⟨S8x96x96x3x3, .f32⟩ : BufTy).Contents (Elt F) → (⟨S8x96x96x1x1, .f32⟩ : BufTy).Contents (Elt F)),
    reshape main_v46 main_v47 (rfl : (.f32 : EltTy) = .f32) shapeCasts_S8x96x96x1x1_S8x96x96,
    unary main_v22 main_v48 ((extractStridedSlice S8x8x96x56x56 ![0, 0, 0, 1, 1] · slices_S8x8x96x58x58_S8x8x96x56x56_0_0_0_1_1) : (⟨S8x8x96x58x58, .f32⟩ : BufTy).Contents (Elt F) → (⟨S8x8x96x56x56, .f32⟩ : BufTy).Contents (Elt F)),
    binary main_v48 main_v47 main_v49 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v49 main_v50 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v45 main_v50 main_v51 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC1t4 : List (Ref sig .tc) := [main_v46, main_v47, main_v48, main_v49, main_v50, main_v51]

theorem writesC1t4 : (opsC1t4 : List (HloOp τ sig (Elt F))).map HloOp.writes = wrC1t4.map fun w => {Proc.devRef (τ := τ) .tc w} := rfl

theorem keepC1t4 (V : Valuation τ sig (Elt F)) (r : Ref sig .tc) (hr : r ∉ wrC1t4) : after opsC1t4 V (Proc.devRef .tc r) = V (Proc.devRef .tc r) :=
  after_unwritten wrC1t4 writesC1t4 hr V

theorem subC1t4 : (opsC1t4 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC1t5 : List (HloOp τ sig (Elt F)) :=
  [ unary main_arg1 main_v52 ((extractStridedSlice S8x96x96x1x1 ![0, 0, 0, 1, 2] · slices_S8x96x96x3x3_S8x96x96x1x1_0_0_0_1_2) : (⟨S8x96x96x3x3, .f32⟩ : BufTy).Contents (Elt F) → (⟨S8x96x96x1x1, .f32⟩ : BufTy).Contents (Elt F)),
    reshape main_v52 main_v53 (rfl : (.f32 : EltTy) = .f32) shapeCasts_S8x96x96x1x1_S8x96x96,
    unary main_v22 main_v54 ((extractStridedSlice S8x8x96x56x56 ![0, 0, 0, 1, 2] · slices_S8x8x96x58x58_S8x8x96x56x56_0_0_0_1_2) : (⟨S8x8x96x58x58, .f32⟩ : BufTy).Contents (Elt F) → (⟨S8x8x96x56x56, .f32⟩ : BufTy).Contents (Elt F)),
    binary main_v54 main_v53 main_v55 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v55 main_v56 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v51 main_v56 main_v57 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC1t5 : List (Ref sig .tc) := [main_v52, main_v53, main_v54, main_v55, main_v56, main_v57]

theorem writesC1t5 : (opsC1t5 : List (HloOp τ sig (Elt F))).map HloOp.writes = wrC1t5.map fun w => {Proc.devRef (τ := τ) .tc w} := rfl

theorem keepC1t5 (V : Valuation τ sig (Elt F)) (r : Ref sig .tc) (hr : r ∉ wrC1t5) : after opsC1t5 V (Proc.devRef .tc r) = V (Proc.devRef .tc r) :=
  after_unwritten wrC1t5 writesC1t5 hr V

theorem subC1t5 : (opsC1t5 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC1t6 : List (HloOp τ sig (Elt F)) :=
  [ unary main_arg1 main_v58 ((extractStridedSlice S8x96x96x1x1 ![0, 0, 0, 2, 0] · slices_S8x96x96x3x3_S8x96x96x1x1_0_0_0_2_0) : (⟨S8x96x96x3x3, .f32⟩ : BufTy).Contents (Elt F) → (⟨S8x96x96x1x1, .f32⟩ : BufTy).Contents (Elt F)),
    reshape main_v58 main_v59 (rfl : (.f32 : EltTy) = .f32) shapeCasts_S8x96x96x1x1_S8x96x96,
    unary main_v22 main_v60 ((extractStridedSlice S8x8x96x56x56 ![0, 0, 0, 2, 0] · slices_S8x8x96x58x58_S8x8x96x56x56_0_0_0_2_0) : (⟨S8x8x96x58x58, .f32⟩ : BufTy).Contents (Elt F) → (⟨S8x8x96x56x56, .f32⟩ : BufTy).Contents (Elt F)),
    binary main_v60 main_v59 main_v61 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v61 main_v62 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v57 main_v62 main_v63 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC1t6 : List (Ref sig .tc) := [main_v58, main_v59, main_v60, main_v61, main_v62, main_v63]

theorem writesC1t6 : (opsC1t6 : List (HloOp τ sig (Elt F))).map HloOp.writes = wrC1t6.map fun w => {Proc.devRef (τ := τ) .tc w} := rfl

theorem keepC1t6 (V : Valuation τ sig (Elt F)) (r : Ref sig .tc) (hr : r ∉ wrC1t6) : after opsC1t6 V (Proc.devRef .tc r) = V (Proc.devRef .tc r) :=
  after_unwritten wrC1t6 writesC1t6 hr V

theorem subC1t6 : (opsC1t6 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC1t7 : List (HloOp τ sig (Elt F)) :=
  [ unary main_arg1 main_v64 ((extractStridedSlice S8x96x96x1x1 ![0, 0, 0, 2, 1] · slices_S8x96x96x3x3_S8x96x96x1x1_0_0_0_2_1) : (⟨S8x96x96x3x3, .f32⟩ : BufTy).Contents (Elt F) → (⟨S8x96x96x1x1, .f32⟩ : BufTy).Contents (Elt F)),
    reshape main_v64 main_v65 (rfl : (.f32 : EltTy) = .f32) shapeCasts_S8x96x96x1x1_S8x96x96,
    unary main_v22 main_v66 ((extractStridedSlice S8x8x96x56x56 ![0, 0, 0, 2, 1] · slices_S8x8x96x58x58_S8x8x96x56x56_0_0_0_2_1) : (⟨S8x8x96x58x58, .f32⟩ : BufTy).Contents (Elt F) → (⟨S8x8x96x56x56, .f32⟩ : BufTy).Contents (Elt F)),
    binary main_v66 main_v65 main_v67 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v67 main_v68 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v63 main_v68 main_v69 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC1t7 : List (Ref sig .tc) := [main_v64, main_v65, main_v66, main_v67, main_v68, main_v69]

theorem writesC1t7 : (opsC1t7 : List (HloOp τ sig (Elt F))).map HloOp.writes = wrC1t7.map fun w => {Proc.devRef (τ := τ) .tc w} := rfl

theorem keepC1t7 (V : Valuation τ sig (Elt F)) (r : Ref sig .tc) (hr : r ∉ wrC1t7) : after opsC1t7 V (Proc.devRef .tc r) = V (Proc.devRef .tc r) :=
  after_unwritten wrC1t7 writesC1t7 hr V

theorem subC1t7 : (opsC1t7 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC1t8 : List (HloOp τ sig (Elt F)) :=
  [ unary main_arg1 main_v70 ((extractStridedSlice S8x96x96x1x1 ![0, 0, 0, 2, 2] · slices_S8x96x96x3x3_S8x96x96x1x1_0_0_0_2_2) : (⟨S8x96x96x3x3, .f32⟩ : BufTy).Contents (Elt F) → (⟨S8x96x96x1x1, .f32⟩ : BufTy).Contents (Elt F)),
    reshape main_v70 main_v71 (rfl : (.f32 : EltTy) = .f32) shapeCasts_S8x96x96x1x1_S8x96x96,
    unary main_v22 main_v72 ((extractStridedSlice S8x8x96x56x56 ![0, 0, 0, 2, 2] · slices_S8x8x96x58x58_S8x8x96x56x56_0_0_0_2_2) : (⟨S8x8x96x58x58, .f32⟩ : BufTy).Contents (Elt F) → (⟨S8x8x96x56x56, .f32⟩ : BufTy).Contents (Elt F)),
    binary main_v72 main_v71 main_v73 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v73 main_v74 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v69 main_v74 main_v75 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC1t8 : List (Ref sig .tc) := [main_v70, main_v71, main_v72, main_v73, main_v74, main_v75]

theorem writesC1t8 : (opsC1t8 : List (HloOp τ sig (Elt F))).map HloOp.writes = wrC1t8.map fun w => {Proc.devRef (τ := τ) .tc w} := rfl

theorem keepC1t8 (V : Valuation τ sig (Elt F)) (r : Ref sig .tc) (hr : r ∉ wrC1t8) : after opsC1t8 V (Proc.devRef .tc r) = V (Proc.devRef .tc r) :=
  after_unwritten wrC1t8 writesC1t8 hr V

theorem subC1t8 : (opsC1t8 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC1 : List (HloOp τ sig (Elt F)) := opsC1t0 ++ (opsC1t1 ++ (opsC1t2 ++ (opsC1t3 ++ (opsC1t4 ++ (opsC1t5 ++ (opsC1t6 ++ (opsC1t7 ++ (opsC1t8))))))))

def wrC1 : List (Ref sig .tc) := wrC1t0 ++ (wrC1t1 ++ (wrC1t2 ++ (wrC1t3 ++ (wrC1t4 ++ (wrC1t5 ++ (wrC1t6 ++ (wrC1t7 ++ (wrC1t8))))))))

theorem keepC1 (V : Valuation τ sig (Elt F)) (r : Ref sig .tc) (hr : r ∉ wrC1) : after opsC1 V (Proc.devRef .tc r) = V (Proc.devRef .tc r) := by
  unfold wrC1 at hr
  simp only [List.mem_append, not_or] at hr
  obtain ⟨h0, h1, h2, h3, h4, h5, h6, h7, h8⟩ := hr
  unfold opsC1
  rw [after_app, after_app, after_app, after_app, after_app, after_app, after_app, after_app, keepC1t8 _ r h8, keepC1t7 _ r h7, keepC1t6 _ r h6, keepC1t5 _ r h5, keepC1t4 _ r h4, keepC1t3 _ r h3, keepC1t2 _ r h2, keepC1t1 _ r h1, keepC1t0 _ r h0]

theorem subC1 : (opsC1 : List (HloOp τ sig (Elt F))).Forall fun op => op.bufs ⊆ tcRefs τ sig := by
  unfold opsC1
  simp only [List.forall_append]
  exact ⟨subC1t0, subC1t1, subC1t2, subC1t3, subC1t4, subC1t5, subC1t6, subC1t7, subC1t8⟩

def opsD1 : List (HloOp τ sig (Elt F)) :=
  [ reshape main_arg2 main_v76 (rfl : (.f32 : EltTy) = .f32) shapeCasts_S8x96_S8x1x96x1x1,
    reshape main_arg3 main_v77 (rfl : (.f32 : EltTy) = .f32) shapeCasts_S8x96_S8x1x96x1x1,
    reshape main_arg4 main_v78 (rfl : (.f32 : EltTy) = .f32) shapeCasts_S8x96_S8x1x96x1x1,
    reshape main_arg5 main_v79 (rfl : (.f32 : EltTy) = .f32) shapeCasts_S8x96_S8x1x96x1x1,
    unary main_v78 main_v80 (broadcastInDim S8x8x96x56x56 ![0, 1, 2, 3, 4] bcast_S8x1x96x1x1_S8x8x96x56x56_0_1_2_3_4 : (⟨S8x1x96x1x1, .f32⟩ : BufTy).Contents (Elt F) → (⟨S8x8x96x56x56, .f32⟩ : BufTy).Contents (Elt F)),
    binary main_v75 main_v80 main_v81 (subf : (⟨S8x8x96x56x56, .f32⟩ : BufTy).Contents (Elt F) → (⟨S8x8x96x56x56, .f32⟩ : BufTy).Contents (Elt F) → (⟨S8x8x96x56x56, .f32⟩ : BufTy).Contents (Elt F)),
    nullary main_cst_4 (constant S_ .f32 0x3727C5AC#32),
    unary main_cst_4 main_v82 (broadcastInDim S8x1x96x1x1 ![] bcast_S_S8x1x96x1x1 : (⟨S_, .f32⟩ : BufTy).Contents (Elt F) → (⟨S8x1x96x1x1, .f32⟩ : BufTy).Contents (Elt F)),
    binary main_v79 main_v82 main_v83 (addf : (⟨S8x1x96x1x1, .f32⟩ : BufTy).Contents (Elt F) → (⟨S8x1x96x1x1, .f32⟩ : BufTy).Contents (Elt F) → (⟨S8x1x96x1x1, .f32⟩ : BufTy).Contents (Elt F)),
    unary main_v83 main_v84 (Host.sqrt : (⟨S8x1x96x1x1, .f32⟩ : BufTy).Contents (Elt F) → (⟨S8x1x96x1x1, .f32⟩ : BufTy).Contents (Elt F)),
    unary main_v84 main_v85 (broadcastInDim S8x8x96x56x56 ![0, 1, 2, 3, 4] bcast_S8x1x96x1x1_S8x8x96x56x56_0_1_2_3_4 : (⟨S8x1x96x1x1, .f32⟩ : BufTy).Contents (Elt F) → (⟨S8x8x96x56x56, .f32⟩ : BufTy).Contents (Elt F)),
    binary main_v81 main_v85 main_v86 (Host.divf : (⟨S8x8x96x56x56, .f32⟩ : BufTy).Contents (Elt F) → (⟨S8x8x96x56x56, .f32⟩ : BufTy).Contents (Elt F) → (⟨S8x8x96x56x56, .f32⟩ : BufTy).Contents (Elt F)),
    unary main_v76 main_v87 (broadcastInDim S8x8x96x56x56 ![0, 1, 2, 3, 4] bcast_S8x1x96x1x1_S8x8x96x56x56_0_1_2_3_4 : (⟨S8x1x96x1x1, .f32⟩ : BufTy).Contents (Elt F) → (⟨S8x8x96x56x56, .f32⟩ : BufTy).Contents (Elt F)),
    binary main_v86 main_v87 main_v88 (mulf : (⟨S8x8x96x56x56, .f32⟩ : BufTy).Contents (Elt F) → (⟨S8x8x96x56x56, .f32⟩ : BufTy).Contents (Elt F) → (⟨S8x8x96x56x56, .f32⟩ : BufTy).Contents (Elt F)),
    unary main_v77 main_v89 (broadcastInDim S8x8x96x56x56 ![0, 1, 2, 3, 4] bcast_S8x1x96x1x1_S8x8x96x56x56_0_1_2_3_4 : (⟨S8x1x96x1x1, .f32⟩ : BufTy).Contents (Elt F) → (⟨S8x8x96x56x56, .f32⟩ : BufTy).Contents (Elt F)),
    binary main_v88 main_v89 main_v90 (addf : (⟨S8x8x96x56x56, .f32⟩ : BufTy).Contents (Elt F) → (⟨S8x8x96x56x56, .f32⟩ : BufTy).Contents (Elt F) → (⟨S8x8x96x56x56, .f32⟩ : BufTy).Contents (Elt F)),
    nullary main_cst_5 (constant S_ .f32 0x00000000#32),
    unary main_cst_5 main_v91 (broadcastInDim S8x8x96x56x56 ![] bcast_S_S8x8x96x56x56 : (⟨S_, .f32⟩ : BufTy).Contents (Elt F) → (⟨S8x8x96x56x56, .f32⟩ : BufTy).Contents (Elt F)),
    binary main_v90 main_v91 main_v92 (maximumf : (⟨S8x8x96x56x56, .f32⟩ : BufTy).Contents (Elt F) → (⟨S8x8x96x56x56, .f32⟩ : BufTy).Contents (Elt F) → (⟨S8x8x96x56x56, .f32⟩ : BufTy).Contents (Elt F)),
    nullary main_c_6 (constantI S_ 32 0#32),
    TRef.unary (TRef.of (T := ⟨S_, .i32⟩) main_c_6) (TRef.of (T := ⟨S_, .f32⟩) main_call1_v0) (sitofp .f32),
    TRef.binary (TRef.of (T := ⟨S8x8x96x56x56, .f32⟩) main_v92) (TRef.of (T := ⟨S_, .f32⟩) main_call1_v0) (TRef.of (T := ⟨S8x8x96x58x58, .f32⟩) main_v93) (fun x v => pad S8x8x96x58x58 ![0, 0, 0, 1, 1] ![0, 0, 0, 1, 1] ![0, 0, 0, 0, 0] x v pads_S8x8x96x56x56_S8x8x96x58x58_000_000_000_110_110 h_S_) ]

def wrD1 : List (Ref sig .tc) := [main_v76, main_v77, main_v78, main_v79, main_v80, main_v81, main_cst_4, main_v82, main_v83, main_v84, main_v85, main_v86, main_v87, main_v88, main_v89, main_v90, main_cst_5, main_v91, main_v92, main_c_6, main_call1_v0, main_v93]

theorem writesD1 : (opsD1 : List (HloOp τ sig (Elt F))).map HloOp.writes = wrD1.map fun w => {Proc.devRef (τ := τ) .tc w} := rfl

theorem keepD1 (V : Valuation τ sig (Elt F)) (r : Ref sig .tc) (hr : r ∉ wrD1) : after opsD1 V (Proc.devRef .tc r) = V (Proc.devRef .tc r) :=
  after_unwritten wrD1 writesD1 hr V

theorem subD1 : (opsD1 : List (HloOp τ sig (Elt F))).Forall fun op => op.bufs ⊆ tcRefs τ sig :=
  ⟨reshape_bufs_sub .., reshape_bufs_sub .., reshape_bufs_sub .., reshape_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub ..⟩

def opsC2t0 : List (HloOp τ sig (Elt F)) :=
  [ unary main_arg6 main_v94 ((extractStridedSlice S8x96x96x1x1 ![0, 0, 0, 0, 0] · slices_S8x96x96x3x3_S8x96x96x1x1_0_0_0_0_0) : (⟨S8x96x96x3x3, .f32⟩ : BufTy).Contents (Elt F) → (⟨S8x96x96x1x1, .f32⟩ : BufTy).Contents (Elt F)),
    reshape main_v94 main_v95 (rfl : (.f32 : EltTy) = .f32) shapeCasts_S8x96x96x1x1_S8x96x96,
    unary main_v93 main_v96 ((extractStridedSlice S8x8x96x56x56 ![0, 0, 0, 0, 0] · slices_S8x8x96x58x58_S8x8x96x56x56_0_0_0_0_0) : (⟨S8x8x96x58x58, .f32⟩ : BufTy).Contents (Elt F) → (⟨S8x8x96x56x56, .f32⟩ : BufTy).Contents (Elt F)),
    binary main_v96 main_v95 main_v97 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v97 main_v98 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)) ]

def wrC2t0 : List (Ref sig .tc) := [main_v94, main_v95, main_v96, main_v97, main_v98]

theorem writesC2t0 : (opsC2t0 : List (HloOp τ sig (Elt F))).map HloOp.writes = wrC2t0.map fun w => {Proc.devRef (τ := τ) .tc w} := rfl

theorem keepC2t0 (V : Valuation τ sig (Elt F)) (r : Ref sig .tc) (hr : r ∉ wrC2t0) : after opsC2t0 V (Proc.devRef .tc r) = V (Proc.devRef .tc r) :=
  after_unwritten wrC2t0 writesC2t0 hr V

theorem subC2t0 : (opsC2t0 : List (HloOp τ sig (Elt F))).Forall fun op => op.bufs ⊆ tcRefs τ sig :=
  ⟨unary_bufs_sub .., reshape_bufs_sub .., unary_bufs_sub .., binary_bufs_sub .., unary_bufs_sub ..⟩

def opsC2t1 : List (HloOp τ sig (Elt F)) :=
  [ unary main_arg6 main_v99 ((extractStridedSlice S8x96x96x1x1 ![0, 0, 0, 0, 1] · slices_S8x96x96x3x3_S8x96x96x1x1_0_0_0_0_1) : (⟨S8x96x96x3x3, .f32⟩ : BufTy).Contents (Elt F) → (⟨S8x96x96x1x1, .f32⟩ : BufTy).Contents (Elt F)),
    reshape main_v99 main_v100 (rfl : (.f32 : EltTy) = .f32) shapeCasts_S8x96x96x1x1_S8x96x96,
    unary main_v93 main_v101 ((extractStridedSlice S8x8x96x56x56 ![0, 0, 0, 0, 1] · slices_S8x8x96x58x58_S8x8x96x56x56_0_0_0_0_1) : (⟨S8x8x96x58x58, .f32⟩ : BufTy).Contents (Elt F) → (⟨S8x8x96x56x56, .f32⟩ : BufTy).Contents (Elt F)),
    binary main_v101 main_v100 main_v102 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v102 main_v103 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v98 main_v103 main_v104 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC2t1 : List (Ref sig .tc) := [main_v99, main_v100, main_v101, main_v102, main_v103, main_v104]

theorem writesC2t1 : (opsC2t1 : List (HloOp τ sig (Elt F))).map HloOp.writes = wrC2t1.map fun w => {Proc.devRef (τ := τ) .tc w} := rfl

theorem keepC2t1 (V : Valuation τ sig (Elt F)) (r : Ref sig .tc) (hr : r ∉ wrC2t1) : after opsC2t1 V (Proc.devRef .tc r) = V (Proc.devRef .tc r) :=
  after_unwritten wrC2t1 writesC2t1 hr V

theorem subC2t1 : (opsC2t1 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC2t2 : List (HloOp τ sig (Elt F)) :=
  [ unary main_arg6 main_v105 ((extractStridedSlice S8x96x96x1x1 ![0, 0, 0, 0, 2] · slices_S8x96x96x3x3_S8x96x96x1x1_0_0_0_0_2) : (⟨S8x96x96x3x3, .f32⟩ : BufTy).Contents (Elt F) → (⟨S8x96x96x1x1, .f32⟩ : BufTy).Contents (Elt F)),
    reshape main_v105 main_v106 (rfl : (.f32 : EltTy) = .f32) shapeCasts_S8x96x96x1x1_S8x96x96,
    unary main_v93 main_v107 ((extractStridedSlice S8x8x96x56x56 ![0, 0, 0, 0, 2] · slices_S8x8x96x58x58_S8x8x96x56x56_0_0_0_0_2) : (⟨S8x8x96x58x58, .f32⟩ : BufTy).Contents (Elt F) → (⟨S8x8x96x56x56, .f32⟩ : BufTy).Contents (Elt F)),
    binary main_v107 main_v106 main_v108 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v108 main_v109 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v104 main_v109 main_v110 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC2t2 : List (Ref sig .tc) := [main_v105, main_v106, main_v107, main_v108, main_v109, main_v110]

theorem writesC2t2 : (opsC2t2 : List (HloOp τ sig (Elt F))).map HloOp.writes = wrC2t2.map fun w => {Proc.devRef (τ := τ) .tc w} := rfl

theorem keepC2t2 (V : Valuation τ sig (Elt F)) (r : Ref sig .tc) (hr : r ∉ wrC2t2) : after opsC2t2 V (Proc.devRef .tc r) = V (Proc.devRef .tc r) :=
  after_unwritten wrC2t2 writesC2t2 hr V

theorem subC2t2 : (opsC2t2 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC2t3 : List (HloOp τ sig (Elt F)) :=
  [ unary main_arg6 main_v111 ((extractStridedSlice S8x96x96x1x1 ![0, 0, 0, 1, 0] · slices_S8x96x96x3x3_S8x96x96x1x1_0_0_0_1_0) : (⟨S8x96x96x3x3, .f32⟩ : BufTy).Contents (Elt F) → (⟨S8x96x96x1x1, .f32⟩ : BufTy).Contents (Elt F)),
    reshape main_v111 main_v112 (rfl : (.f32 : EltTy) = .f32) shapeCasts_S8x96x96x1x1_S8x96x96,
    unary main_v93 main_v113 ((extractStridedSlice S8x8x96x56x56 ![0, 0, 0, 1, 0] · slices_S8x8x96x58x58_S8x8x96x56x56_0_0_0_1_0) : (⟨S8x8x96x58x58, .f32⟩ : BufTy).Contents (Elt F) → (⟨S8x8x96x56x56, .f32⟩ : BufTy).Contents (Elt F)),
    binary main_v113 main_v112 main_v114 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v114 main_v115 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v110 main_v115 main_v116 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC2t3 : List (Ref sig .tc) := [main_v111, main_v112, main_v113, main_v114, main_v115, main_v116]

theorem writesC2t3 : (opsC2t3 : List (HloOp τ sig (Elt F))).map HloOp.writes = wrC2t3.map fun w => {Proc.devRef (τ := τ) .tc w} := rfl

theorem keepC2t3 (V : Valuation τ sig (Elt F)) (r : Ref sig .tc) (hr : r ∉ wrC2t3) : after opsC2t3 V (Proc.devRef .tc r) = V (Proc.devRef .tc r) :=
  after_unwritten wrC2t3 writesC2t3 hr V

theorem subC2t3 : (opsC2t3 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC2t4 : List (HloOp τ sig (Elt F)) :=
  [ unary main_arg6 main_v117 ((extractStridedSlice S8x96x96x1x1 ![0, 0, 0, 1, 1] · slices_S8x96x96x3x3_S8x96x96x1x1_0_0_0_1_1) : (⟨S8x96x96x3x3, .f32⟩ : BufTy).Contents (Elt F) → (⟨S8x96x96x1x1, .f32⟩ : BufTy).Contents (Elt F)),
    reshape main_v117 main_v118 (rfl : (.f32 : EltTy) = .f32) shapeCasts_S8x96x96x1x1_S8x96x96,
    unary main_v93 main_v119 ((extractStridedSlice S8x8x96x56x56 ![0, 0, 0, 1, 1] · slices_S8x8x96x58x58_S8x8x96x56x56_0_0_0_1_1) : (⟨S8x8x96x58x58, .f32⟩ : BufTy).Contents (Elt F) → (⟨S8x8x96x56x56, .f32⟩ : BufTy).Contents (Elt F)),
    binary main_v119 main_v118 main_v120 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v120 main_v121 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v116 main_v121 main_v122 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC2t4 : List (Ref sig .tc) := [main_v117, main_v118, main_v119, main_v120, main_v121, main_v122]

theorem writesC2t4 : (opsC2t4 : List (HloOp τ sig (Elt F))).map HloOp.writes = wrC2t4.map fun w => {Proc.devRef (τ := τ) .tc w} := rfl

theorem keepC2t4 (V : Valuation τ sig (Elt F)) (r : Ref sig .tc) (hr : r ∉ wrC2t4) : after opsC2t4 V (Proc.devRef .tc r) = V (Proc.devRef .tc r) :=
  after_unwritten wrC2t4 writesC2t4 hr V

theorem subC2t4 : (opsC2t4 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC2t5 : List (HloOp τ sig (Elt F)) :=
  [ unary main_arg6 main_v123 ((extractStridedSlice S8x96x96x1x1 ![0, 0, 0, 1, 2] · slices_S8x96x96x3x3_S8x96x96x1x1_0_0_0_1_2) : (⟨S8x96x96x3x3, .f32⟩ : BufTy).Contents (Elt F) → (⟨S8x96x96x1x1, .f32⟩ : BufTy).Contents (Elt F)),
    reshape main_v123 main_v124 (rfl : (.f32 : EltTy) = .f32) shapeCasts_S8x96x96x1x1_S8x96x96,
    unary main_v93 main_v125 ((extractStridedSlice S8x8x96x56x56 ![0, 0, 0, 1, 2] · slices_S8x8x96x58x58_S8x8x96x56x56_0_0_0_1_2) : (⟨S8x8x96x58x58, .f32⟩ : BufTy).Contents (Elt F) → (⟨S8x8x96x56x56, .f32⟩ : BufTy).Contents (Elt F)),
    binary main_v125 main_v124 main_v126 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v126 main_v127 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v122 main_v127 main_v128 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC2t5 : List (Ref sig .tc) := [main_v123, main_v124, main_v125, main_v126, main_v127, main_v128]

theorem writesC2t5 : (opsC2t5 : List (HloOp τ sig (Elt F))).map HloOp.writes = wrC2t5.map fun w => {Proc.devRef (τ := τ) .tc w} := rfl

theorem keepC2t5 (V : Valuation τ sig (Elt F)) (r : Ref sig .tc) (hr : r ∉ wrC2t5) : after opsC2t5 V (Proc.devRef .tc r) = V (Proc.devRef .tc r) :=
  after_unwritten wrC2t5 writesC2t5 hr V

theorem subC2t5 : (opsC2t5 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC2t6 : List (HloOp τ sig (Elt F)) :=
  [ unary main_arg6 main_v129 ((extractStridedSlice S8x96x96x1x1 ![0, 0, 0, 2, 0] · slices_S8x96x96x3x3_S8x96x96x1x1_0_0_0_2_0) : (⟨S8x96x96x3x3, .f32⟩ : BufTy).Contents (Elt F) → (⟨S8x96x96x1x1, .f32⟩ : BufTy).Contents (Elt F)),
    reshape main_v129 main_v130 (rfl : (.f32 : EltTy) = .f32) shapeCasts_S8x96x96x1x1_S8x96x96,
    unary main_v93 main_v131 ((extractStridedSlice S8x8x96x56x56 ![0, 0, 0, 2, 0] · slices_S8x8x96x58x58_S8x8x96x56x56_0_0_0_2_0) : (⟨S8x8x96x58x58, .f32⟩ : BufTy).Contents (Elt F) → (⟨S8x8x96x56x56, .f32⟩ : BufTy).Contents (Elt F)),
    binary main_v131 main_v130 main_v132 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v132 main_v133 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v128 main_v133 main_v134 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC2t6 : List (Ref sig .tc) := [main_v129, main_v130, main_v131, main_v132, main_v133, main_v134]

theorem writesC2t6 : (opsC2t6 : List (HloOp τ sig (Elt F))).map HloOp.writes = wrC2t6.map fun w => {Proc.devRef (τ := τ) .tc w} := rfl

theorem keepC2t6 (V : Valuation τ sig (Elt F)) (r : Ref sig .tc) (hr : r ∉ wrC2t6) : after opsC2t6 V (Proc.devRef .tc r) = V (Proc.devRef .tc r) :=
  after_unwritten wrC2t6 writesC2t6 hr V

theorem subC2t6 : (opsC2t6 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC2t7 : List (HloOp τ sig (Elt F)) :=
  [ unary main_arg6 main_v135 ((extractStridedSlice S8x96x96x1x1 ![0, 0, 0, 2, 1] · slices_S8x96x96x3x3_S8x96x96x1x1_0_0_0_2_1) : (⟨S8x96x96x3x3, .f32⟩ : BufTy).Contents (Elt F) → (⟨S8x96x96x1x1, .f32⟩ : BufTy).Contents (Elt F)),
    reshape main_v135 main_v136 (rfl : (.f32 : EltTy) = .f32) shapeCasts_S8x96x96x1x1_S8x96x96,
    unary main_v93 main_v137 ((extractStridedSlice S8x8x96x56x56 ![0, 0, 0, 2, 1] · slices_S8x8x96x58x58_S8x8x96x56x56_0_0_0_2_1) : (⟨S8x8x96x58x58, .f32⟩ : BufTy).Contents (Elt F) → (⟨S8x8x96x56x56, .f32⟩ : BufTy).Contents (Elt F)),
    binary main_v137 main_v136 main_v138 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v138 main_v139 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v134 main_v139 main_v140 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC2t7 : List (Ref sig .tc) := [main_v135, main_v136, main_v137, main_v138, main_v139, main_v140]

theorem writesC2t7 : (opsC2t7 : List (HloOp τ sig (Elt F))).map HloOp.writes = wrC2t7.map fun w => {Proc.devRef (τ := τ) .tc w} := rfl

theorem keepC2t7 (V : Valuation τ sig (Elt F)) (r : Ref sig .tc) (hr : r ∉ wrC2t7) : after opsC2t7 V (Proc.devRef .tc r) = V (Proc.devRef .tc r) :=
  after_unwritten wrC2t7 writesC2t7 hr V

theorem subC2t7 : (opsC2t7 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC2t8 : List (HloOp τ sig (Elt F)) :=
  [ unary main_arg6 main_v141 ((extractStridedSlice S8x96x96x1x1 ![0, 0, 0, 2, 2] · slices_S8x96x96x3x3_S8x96x96x1x1_0_0_0_2_2) : (⟨S8x96x96x3x3, .f32⟩ : BufTy).Contents (Elt F) → (⟨S8x96x96x1x1, .f32⟩ : BufTy).Contents (Elt F)),
    reshape main_v141 main_v142 (rfl : (.f32 : EltTy) = .f32) shapeCasts_S8x96x96x1x1_S8x96x96,
    unary main_v93 main_v143 ((extractStridedSlice S8x8x96x56x56 ![0, 0, 0, 2, 2] · slices_S8x8x96x58x58_S8x8x96x56x56_0_0_0_2_2) : (⟨S8x8x96x58x58, .f32⟩ : BufTy).Contents (Elt F) → (⟨S8x8x96x56x56, .f32⟩ : BufTy).Contents (Elt F)),
    binary main_v143 main_v142 main_v144 ((fun l r => Host.dotGeneral dot_S8x8x96x56x56_S8x96x96_S8x8x56x56x96_2_2_134_1_0_0 none l r) : (⟨S8x8x96x56x56, .f32⟩ : BufTy).Contents (Elt F) → (⟨S8x96x96, .f32⟩ : BufTy).Contents (Elt F) → (⟨S8x8x56x56x96, .f32⟩ : BufTy).Contents (Elt F)),
    unary main_v144 main_v145 ((transpose S8x8x96x56x56 [0, 1, 4, 2, 3] · transposes_S8x8x56x56x96_S8x8x96x56x56_0_1_4_2_3) : (⟨S8x8x56x56x96, .f32⟩ : BufTy).Contents (Elt F) → (⟨S8x8x96x56x56, .f32⟩ : BufTy).Contents (Elt F)),
    binary main_v140 main_v145 main_v146 (addf : (⟨S8x8x96x56x56, .f32⟩ : BufTy).Contents (Elt F) → (⟨S8x8x96x56x56, .f32⟩ : BufTy).Contents (Elt F) → (⟨S8x8x96x56x56, .f32⟩ : BufTy).Contents (Elt F)) ]

def wrC2t8 : List (Ref sig .tc) := [main_v141, main_v142, main_v143, main_v144, main_v145, main_v146]

theorem writesC2t8 : (opsC2t8 : List (HloOp τ sig (Elt F))).map HloOp.writes = wrC2t8.map fun w => {Proc.devRef (τ := τ) .tc w} := rfl

theorem keepC2t8 (V : Valuation τ sig (Elt F)) (r : Ref sig .tc) (hr : r ∉ wrC2t8) : after opsC2t8 V (Proc.devRef .tc r) = V (Proc.devRef .tc r) :=
  after_unwritten wrC2t8 writesC2t8 hr V

theorem subC2t8 : (opsC2t8 : List (HloOp τ sig (Elt F))).Forall fun op => op.bufs ⊆ tcRefs τ sig :=
  ⟨unary_bufs_sub .., reshape_bufs_sub .., unary_bufs_sub .., binary_bufs_sub .., unary_bufs_sub .., binary_bufs_sub ..⟩

def opsC2 : List (HloOp τ sig (Elt F)) := opsC2t0 ++ (opsC2t1 ++ (opsC2t2 ++ (opsC2t3 ++ (opsC2t4 ++ (opsC2t5 ++ (opsC2t6 ++ (opsC2t7 ++ (opsC2t8))))))))

def wrC2 : List (Ref sig .tc) := wrC2t0 ++ (wrC2t1 ++ (wrC2t2 ++ (wrC2t3 ++ (wrC2t4 ++ (wrC2t5 ++ (wrC2t6 ++ (wrC2t7 ++ (wrC2t8))))))))

theorem keepC2 (V : Valuation τ sig (Elt F)) (r : Ref sig .tc) (hr : r ∉ wrC2) : after opsC2 V (Proc.devRef .tc r) = V (Proc.devRef .tc r) := by
  unfold wrC2 at hr
  simp only [List.mem_append, not_or] at hr
  obtain ⟨h0, h1, h2, h3, h4, h5, h6, h7, h8⟩ := hr
  unfold opsC2
  rw [after_app, after_app, after_app, after_app, after_app, after_app, after_app, after_app, keepC2t8 _ r h8, keepC2t7 _ r h7, keepC2t6 _ r h6, keepC2t5 _ r h5, keepC2t4 _ r h4, keepC2t3 _ r h3, keepC2t2 _ r h2, keepC2t1 _ r h1, keepC2t0 _ r h0]

theorem subC2 : (opsC2 : List (HloOp τ sig (Elt F))).Forall fun op => op.bufs ⊆ tcRefs τ sig := by
  unfold opsC2
  simp only [List.forall_append]
  exact ⟨subC2t0, subC2t1, subC2t2, subC2t3, subC2t4, subC2t5, subC2t6, subC2t7, subC2t8⟩

def opsD2 : List (HloOp τ sig (Elt F)) :=
  [ reshape main_arg7 main_v147 (rfl : (.f32 : EltTy) = .f32) shapeCasts_S8x96_S8x1x96x1x1,
    reshape main_arg8 main_v148 (rfl : (.f32 : EltTy) = .f32) shapeCasts_S8x96_S8x1x96x1x1,
    reshape main_arg9 main_v149 (rfl : (.f32 : EltTy) = .f32) shapeCasts_S8x96_S8x1x96x1x1,
    reshape main_arg10 main_v150 (rfl : (.f32 : EltTy) = .f32) shapeCasts_S8x96_S8x1x96x1x1,
    unary main_v149 main_v151 (broadcastInDim S8x8x96x56x56 ![0, 1, 2, 3, 4] bcast_S8x1x96x1x1_S8x8x96x56x56_0_1_2_3_4 : (⟨S8x1x96x1x1, .f32⟩ : BufTy).Contents (Elt F) → (⟨S8x8x96x56x56, .f32⟩ : BufTy).Contents (Elt F)),
    binary main_v146 main_v151 main_v152 (subf : (⟨S8x8x96x56x56, .f32⟩ : BufTy).Contents (Elt F) → (⟨S8x8x96x56x56, .f32⟩ : BufTy).Contents (Elt F) → (⟨S8x8x96x56x56, .f32⟩ : BufTy).Contents (Elt F)),
    nullary main_cst_7 (constant S_ .f32 0x3727C5AC#32),
    unary main_cst_7 main_v153 (broadcastInDim S8x1x96x1x1 ![] bcast_S_S8x1x96x1x1 : (⟨S_, .f32⟩ : BufTy).Contents (Elt F) → (⟨S8x1x96x1x1, .f32⟩ : BufTy).Contents (Elt F)),
    binary main_v150 main_v153 main_v154 (addf : (⟨S8x1x96x1x1, .f32⟩ : BufTy).Contents (Elt F) → (⟨S8x1x96x1x1, .f32⟩ : BufTy).Contents (Elt F) → (⟨S8x1x96x1x1, .f32⟩ : BufTy).Contents (Elt F)),
    unary main_v154 main_v155 (Host.sqrt : (⟨S8x1x96x1x1, .f32⟩ : BufTy).Contents (Elt F) → (⟨S8x1x96x1x1, .f32⟩ : BufTy).Contents (Elt F)),
    unary main_v155 main_v156 (broadcastInDim S8x8x96x56x56 ![0, 1, 2, 3, 4] bcast_S8x1x96x1x1_S8x8x96x56x56_0_1_2_3_4 : (⟨S8x1x96x1x1, .f32⟩ : BufTy).Contents (Elt F) → (⟨S8x8x96x56x56, .f32⟩ : BufTy).Contents (Elt F)),
    binary main_v152 main_v156 main_v157 (Host.divf : (⟨S8x8x96x56x56, .f32⟩ : BufTy).Contents (Elt F) → (⟨S8x8x96x56x56, .f32⟩ : BufTy).Contents (Elt F) → (⟨S8x8x96x56x56, .f32⟩ : BufTy).Contents (Elt F)),
    unary main_v147 main_v158 (broadcastInDim S8x8x96x56x56 ![0, 1, 2, 3, 4] bcast_S8x1x96x1x1_S8x8x96x56x56_0_1_2_3_4 : (⟨S8x1x96x1x1, .f32⟩ : BufTy).Contents (Elt F) → (⟨S8x8x96x56x56, .f32⟩ : BufTy).Contents (Elt F)),
    binary main_v157 main_v158 main_v159 (mulf : (⟨S8x8x96x56x56, .f32⟩ : BufTy).Contents (Elt F) → (⟨S8x8x96x56x56, .f32⟩ : BufTy).Contents (Elt F) → (⟨S8x8x96x56x56, .f32⟩ : BufTy).Contents (Elt F)),
    unary main_v148 main_v160 (broadcastInDim S8x8x96x56x56 ![0, 1, 2, 3, 4] bcast_S8x1x96x1x1_S8x8x96x56x56_0_1_2_3_4 : (⟨S8x1x96x1x1, .f32⟩ : BufTy).Contents (Elt F) → (⟨S8x8x96x56x56, .f32⟩ : BufTy).Contents (Elt F)),
    binary main_v159 main_v160 main_v161 (addf : (⟨S8x8x96x56x56, .f32⟩ : BufTy).Contents (Elt F) → (⟨S8x8x96x56x56, .f32⟩ : BufTy).Contents (Elt F) → (⟨S8x8x96x56x56, .f32⟩ : BufTy).Contents (Elt F)),
    binary main_v161 main_v21 main_v162 (addf : (⟨S8x8x96x56x56, .f32⟩ : BufTy).Contents (Elt F) → (⟨S8x8x96x56x56, .f32⟩ : BufTy).Contents (Elt F) → (⟨S8x8x96x56x56, .f32⟩ : BufTy).Contents (Elt F)),
    nullary main_cst_8 (constant S_ .f32 0x00000000#32),
    unary main_cst_8 main_v163 (broadcastInDim S8x8x96x56x56 ![] bcast_S_S8x8x96x56x56 : (⟨S_, .f32⟩ : BufTy).Contents (Elt F) → (⟨S8x8x96x56x56, .f32⟩ : BufTy).Contents (Elt F)),
    binary main_v162 main_v163 main_v164 (maximumf : (⟨S8x8x96x56x56, .f32⟩ : BufTy).Contents (Elt F) → (⟨S8x8x96x56x56, .f32⟩ : BufTy).Contents (Elt F) → (⟨S8x8x96x56x56, .f32⟩ : BufTy).Contents (Elt F)),
    binary main_v164 main_v19 main_v165 ((fun l r => Host.dotGeneral dot_S8x8x96x56x56_S8x8_S8x96x56x56_0_1_234_n_1_0 none l r) : (⟨S8x8x96x56x56, .f32⟩ : BufTy).Contents (Elt F) → (⟨S8x8, .f32⟩ : BufTy).Contents (Elt F) → (⟨S8x96x56x56, .f32⟩ : BufTy).Contents (Elt F)) ]

def wrD2 : List (Ref sig .tc) := [main_v147, main_v148, main_v149, main_v150, main_v151, main_v152, main_cst_7, main_v153, main_v154, main_v155, main_v156, main_v157, main_v158, main_v159, main_v160, main_v161, main_v162, main_cst_8, main_v163, main_v164, main_v165]

theorem writesD2 : (opsD2 : List (HloOp τ sig (Elt F))).map HloOp.writes = wrD2.map fun w => {Proc.devRef (τ := τ) .tc w} := rfl

theorem keepD2 (V : Valuation τ sig (Elt F)) (r : Ref sig .tc) (hr : r ∉ wrD2) : after opsD2 V (Proc.devRef .tc r) = V (Proc.devRef .tc r) :=
  after_unwritten wrD2 writesD2 hr V

theorem subD2 : (opsD2 : List (HloOp τ sig (Elt F))).Forall fun op => op.bufs ⊆ tcRefs τ sig :=
  ⟨reshape_bufs_sub .., reshape_bufs_sub .., reshape_bufs_sub .., reshape_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., nullary_bufs_sub .., unary_bufs_sub .., binary_bufs_sub .., binary_bufs_sub ..⟩

/-- All of them, in order. -/
def ops : List (HloOp τ sig (Elt F)) := opsA ++ (opsB ++ (opsC1 ++ (opsD1 ++ (opsC2 ++ opsD2))))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  simp only [List.forall_append]
  exact ⟨subA, subB, subC1, subD1, subC2, subD2⟩

end Cert.RefRun

end
-- ==== Proof.Ref.lean ====
/-
  The run of the expert call's reference: what each stretch of operations leaves.
-/
module

public import proofs.«01_k».proof.Proof.RefOps
public import Idealize.ShloMosaic.Lib.StableHlo.Run
public import Idealize.ShloMosaic.Lib.StableHlo.RunRead
public import Idealize.ShloMosaic.Lib.Quiescent

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

section stages
variable (V : Valuation τ sig (Elt F))

theorem stC1t0 : after opsC1t0 V (Proc.devRef .tc main_v27) = refTap 0 0 slices_S8x8x96x58x58_S8x8x96x56x56_0_0_0_0_0 slices_S8x96x96x3x3_S8x96x96x1x1_0_0_0_0_0 (V (Proc.devRef .tc main_v22)) (V (Proc.devRef .tc main_arg1)) := by
  after_reads_simp; rfl
theorem stC1t1 : after opsC1t1 V (Proc.devRef .tc main_v33) = addf (V (Proc.devRef .tc main_v27)) (refTap 0 1 slices_S8x8x96x58x58_S8x8x96x56x56_0_0_0_0_1 slices_S8x96x96x3x3_S8x96x96x1x1_0_0_0_0_1 (V (Proc.devRef .tc main_v22)) (V (Proc.devRef .tc main_arg1))) := by
  after_reads_simp; rfl
theorem stC1t2 : after opsC1t2 V (Proc.devRef .tc main_v39) = addf (V (Proc.devRef .tc main_v33)) (refTap 0 2 slices_S8x8x96x58x58_S8x8x96x56x56_0_0_0_0_2 slices_S8x96x96x3x3_S8x96x96x1x1_0_0_0_0_2 (V (Proc.devRef .tc main_v22)) (V (Proc.devRef .tc main_arg1))) := by
  after_reads_simp; rfl
theorem stC1t3 : after opsC1t3 V (Proc.devRef .tc main_v45) = addf (V (Proc.devRef .tc main_v39)) (refTap 1 0 slices_S8x8x96x58x58_S8x8x96x56x56_0_0_0_1_0 slices_S8x96x96x3x3_S8x96x96x1x1_0_0_0_1_0 (V (Proc.devRef .tc main_v22)) (V (Proc.devRef .tc main_arg1))) := by
  after_reads_simp; rfl
theorem stC1t4 : after opsC1t4 V (Proc.devRef .tc main_v51) = addf (V (Proc.devRef .tc main_v45)) (refTap 1 1 slices_S8x8x96x58x58_S8x8x96x56x56_0_0_0_1_1 slices_S8x96x96x3x3_S8x96x96x1x1_0_0_0_1_1 (V (Proc.devRef .tc main_v22)) (V (Proc.devRef .tc main_arg1))) := by
  after_reads_simp; rfl
theorem stC1t5 : after opsC1t5 V (Proc.devRef .tc main_v57) = addf (V (Proc.devRef .tc main_v51)) (refTap 1 2 slices_S8x8x96x58x58_S8x8x96x56x56_0_0_0_1_2 slices_S8x96x96x3x3_S8x96x96x1x1_0_0_0_1_2 (V (Proc.devRef .tc main_v22)) (V (Proc.devRef .tc main_arg1))) := by
  after_reads_simp; rfl
theorem stC1t6 : after opsC1t6 V (Proc.devRef .tc main_v63) = addf (V (Proc.devRef .tc main_v57)) (refTap 2 0 slices_S8x8x96x58x58_S8x8x96x56x56_0_0_0_2_0 slices_S8x96x96x3x3_S8x96x96x1x1_0_0_0_2_0 (V (Proc.devRef .tc main_v22)) (V (Proc.devRef .tc main_arg1))) := by
  after_reads_simp; rfl
theorem stC1t7 : after opsC1t7 V (Proc.devRef .tc main_v69) = addf (V (Proc.devRef .tc main_v63)) (refTap 2 1 slices_S8x8x96x58x58_S8x8x96x56x56_0_0_0_2_1 slices_S8x96x96x3x3_S8x96x96x1x1_0_0_0_2_1 (V (Proc.devRef .tc main_v22)) (V (Proc.devRef .tc main_arg1))) := by
  after_reads_simp; rfl
theorem stC1t8 : after opsC1t8 V (Proc.devRef .tc main_v75) = addf (V (Proc.devRef .tc main_v69)) (refTap 2 2 slices_S8x8x96x58x58_S8x8x96x56x56_0_0_0_2_2 slices_S8x96x96x3x3_S8x96x96x1x1_0_0_0_2_2 (V (Proc.devRef .tc main_v22)) (V (Proc.devRef .tc main_arg1))) := by
  after_reads_simp; rfl
theorem stC1 : after opsC1 V (Proc.devRef .tc main_v75) = refConv (V (Proc.devRef .tc main_v22)) (V (Proc.devRef .tc main_arg1)) := by
  unfold opsC1 refConv
  rw [after_app, after_app, after_app, after_app, after_app, after_app, after_app, after_app]
  rw [stC1t8, keepC1t7 _ main_v22 (by decide), keepC1t7 _ main_arg1 (by decide)]
  rw [stC1t7, keepC1t6 _ main_v22 (by decide), keepC1t6 _ main_arg1 (by decide)]
  rw [stC1t6, keepC1t5 _ main_v22 (by decide), keepC1t5 _ main_arg1 (by decide)]
  rw [stC1t5, keepC1t4 _ main_v22 (by decide), keepC1t4 _ main_arg1 (by decide)]
  rw [stC1t4, keepC1t3 _ main_v22 (by decide), keepC1t3 _ main_arg1 (by decide)]
  rw [stC1t3, keepC1t2 _ main_v22 (by decide), keepC1t2 _ main_arg1 (by decide)]
  rw [stC1t2, keepC1t1 _ main_v22 (by decide), keepC1t1 _ main_arg1 (by decide)]
  rw [stC1t1, keepC1t0 _ main_v22 (by decide), keepC1t0 _ main_arg1 (by decide)]
  rw [stC1t0]
theorem stC2t0 : after opsC2t0 V (Proc.devRef .tc main_v98) = refTap 0 0 slices_S8x8x96x58x58_S8x8x96x56x56_0_0_0_0_0 slices_S8x96x96x3x3_S8x96x96x1x1_0_0_0_0_0 (V (Proc.devRef .tc main_v93)) (V (Proc.devRef .tc main_arg6)) := by
  after_reads_simp; rfl
theorem stC2t1 : after opsC2t1 V (Proc.devRef .tc main_v104) = addf (V (Proc.devRef .tc main_v98)) (refTap 0 1 slices_S8x8x96x58x58_S8x8x96x56x56_0_0_0_0_1 slices_S8x96x96x3x3_S8x96x96x1x1_0_0_0_0_1 (V (Proc.devRef .tc main_v93)) (V (Proc.devRef .tc main_arg6))) := by
  after_reads_simp; rfl
theorem stC2t2 : after opsC2t2 V (Proc.devRef .tc main_v110) = addf (V (Proc.devRef .tc main_v104)) (refTap 0 2 slices_S8x8x96x58x58_S8x8x96x56x56_0_0_0_0_2 slices_S8x96x96x3x3_S8x96x96x1x1_0_0_0_0_2 (V (Proc.devRef .tc main_v93)) (V (Proc.devRef .tc main_arg6))) := by
  after_reads_simp; rfl
theorem stC2t3 : after opsC2t3 V (Proc.devRef .tc main_v116) = addf (V (Proc.devRef .tc main_v110)) (refTap 1 0 slices_S8x8x96x58x58_S8x8x96x56x56_0_0_0_1_0 slices_S8x96x96x3x3_S8x96x96x1x1_0_0_0_1_0 (V (Proc.devRef .tc main_v93)) (V (Proc.devRef .tc main_arg6))) := by
  after_reads_simp; rfl
theorem stC2t4 : after opsC2t4 V (Proc.devRef .tc main_v122) = addf (V (Proc.devRef .tc main_v116)) (refTap 1 1 slices_S8x8x96x58x58_S8x8x96x56x56_0_0_0_1_1 slices_S8x96x96x3x3_S8x96x96x1x1_0_0_0_1_1 (V (Proc.devRef .tc main_v93)) (V (Proc.devRef .tc main_arg6))) := by
  after_reads_simp; rfl
theorem stC2t5 : after opsC2t5 V (Proc.devRef .tc main_v128) = addf (V (Proc.devRef .tc main_v122)) (refTap 1 2 slices_S8x8x96x58x58_S8x8x96x56x56_0_0_0_1_2 slices_S8x96x96x3x3_S8x96x96x1x1_0_0_0_1_2 (V (Proc.devRef .tc main_v93)) (V (Proc.devRef .tc main_arg6))) := by
  after_reads_simp; rfl
theorem stC2t6 : after opsC2t6 V (Proc.devRef .tc main_v134) = addf (V (Proc.devRef .tc main_v128)) (refTap 2 0 slices_S8x8x96x58x58_S8x8x96x56x56_0_0_0_2_0 slices_S8x96x96x3x3_S8x96x96x1x1_0_0_0_2_0 (V (Proc.devRef .tc main_v93)) (V (Proc.devRef .tc main_arg6))) := by
  after_reads_simp; rfl
theorem stC2t7 : after opsC2t7 V (Proc.devRef .tc main_v140) = addf (V (Proc.devRef .tc main_v134)) (refTap 2 1 slices_S8x8x96x58x58_S8x8x96x56x56_0_0_0_2_1 slices_S8x96x96x3x3_S8x96x96x1x1_0_0_0_2_1 (V (Proc.devRef .tc main_v93)) (V (Proc.devRef .tc main_arg6))) := by
  after_reads_simp; rfl
theorem stC2t8 : after opsC2t8 V (Proc.devRef .tc main_v146) = addf (V (Proc.devRef .tc main_v140)) (refTap 2 2 slices_S8x8x96x58x58_S8x8x96x56x56_0_0_0_2_2 slices_S8x96x96x3x3_S8x96x96x1x1_0_0_0_2_2 (V (Proc.devRef .tc main_v93)) (V (Proc.devRef .tc main_arg6))) := by
  after_reads_simp; rfl
theorem stC2 : after opsC2 V (Proc.devRef .tc main_v146) = refConv (V (Proc.devRef .tc main_v93)) (V (Proc.devRef .tc main_arg6)) := by
  unfold opsC2 refConv
  rw [after_app, after_app, after_app, after_app, after_app, after_app, after_app, after_app]
  rw [stC2t8, keepC2t7 _ main_v93 (by decide), keepC2t7 _ main_arg6 (by decide)]
  rw [stC2t7, keepC2t6 _ main_v93 (by decide), keepC2t6 _ main_arg6 (by decide)]
  rw [stC2t6, keepC2t5 _ main_v93 (by decide), keepC2t5 _ main_arg6 (by decide)]
  rw [stC2t5, keepC2t4 _ main_v93 (by decide), keepC2t4 _ main_arg6 (by decide)]
  rw [stC2t4, keepC2t3 _ main_v93 (by decide), keepC2t3 _ main_arg6 (by decide)]
  rw [stC2t3, keepC2t2 _ main_v93 (by decide), keepC2t2 _ main_arg6 (by decide)]
  rw [stC2t2, keepC2t1 _ main_v93 (by decide), keepC2t1 _ main_arg6 (by decide)]
  rw [stC2t1, keepC2t0 _ main_v93 (by decide), keepC2t0 _ main_arg6 (by decide)]
  rw [stC2t0]

theorem stA : after opsA V (Proc.devRef .tc main_v19) = refW (V (Proc.devRef .tc main_arg11)) (V (Proc.devRef .tc main_arg12)) := by
  after_reads_simp; rfl
theorem stB1 : after opsB V (Proc.devRef .tc main_v21) = refXe (V (Proc.devRef .tc main_arg0)) := by
  after_reads_simp; rfl
theorem stB2 : after opsB V (Proc.devRef .tc main_v22) = refPad (refXe (V (Proc.devRef .tc main_arg0))) := by
  after_reads_simp; rfl
theorem stD1 : after opsD1 V (Proc.devRef .tc main_v93) = refPad (refRelu (refBn (V (Proc.devRef .tc main_v75)) (V (Proc.devRef .tc main_arg2)) (V (Proc.devRef .tc main_arg3)) (V (Proc.devRef .tc main_arg4)) (V (Proc.devRef .tc main_arg5)))) := by
  after_reads_simp; rfl
theorem stD2 : after opsD2 V (Proc.devRef .tc main_v165) = refMix (refRelu (addf (refBn (V (Proc.devRef .tc main_v146)) (V (Proc.devRef .tc main_arg7)) (V (Proc.devRef .tc main_arg8)) (V (Proc.devRef .tc main_arg9)) (V (Proc.devRef .tc main_arg10))) (V (Proc.devRef .tc main_v21)))) (V (Proc.devRef .tc main_v19)) := by
  after_reads_simp; rfl

theorem all_kept (r : Ref sig .tc) (h : r ∉ wrA ++ (wrB ++ (wrC1 ++ (wrD1 ++ (wrC2 ++ wrD2))))) : after ops V (Proc.devRef .tc r) = V (Proc.devRef .tc r) := by
  simp only [List.mem_append, not_or] at h
  unfold ops
  rw [after_app, after_app, after_app, after_app, after_app, keepD2 _ r h.2.2.2.2.2, keepC2 _ r h.2.2.2.2.1, keepD1 _ r h.2.2.2.1, keepC1 _ r h.2.2.1,
    keepB _ r h.2.1, keepA _ r h.1]

theorem all_out : after ops V (Proc.devRef .tc main_v165) = refAll (V (Proc.devRef .tc main_arg0)) (V (Proc.devRef .tc main_arg1))
    (V (Proc.devRef .tc main_arg2)) (V (Proc.devRef .tc main_arg3)) (V (Proc.devRef .tc main_arg4)) (V (Proc.devRef .tc main_arg5)) (V (Proc.devRef .tc main_arg6))
    (V (Proc.devRef .tc main_arg7)) (V (Proc.devRef .tc main_arg8)) (V (Proc.devRef .tc main_arg9)) (V (Proc.devRef .tc main_arg10))
    (V (Proc.devRef .tc main_arg11)) (V (Proc.devRef .tc main_arg12)) := by
  unfold ops refAll
  rw [after_app, after_app, after_app, after_app, after_app, stD2, stC2]
  rw [keepC2 _ main_v21 (by decide), keepC2 _ main_v19 (by decide), keepC2 _ main_arg7 (by decide), keepC2 _ main_arg8 (by decide), keepC2 _ main_arg9 (by decide), keepC2 _ main_arg10 (by decide)]
  rw [stD1]
  rw [keepD1 _ main_v21 (by decide), keepD1 _ main_v19 (by decide), keepD1 _ main_arg6 (by decide), keepD1 _ main_arg7 (by decide), keepD1 _ main_arg8 (by decide), keepD1 _ main_arg9 (by decide), keepD1 _ main_arg10 (by decide)]
  rw [stC1]
  rw [keepC1 _ main_v21 (by decide), keepC1 _ main_v19 (by decide), keepC1 _ main_arg2 (by decide), keepC1 _ main_arg3 (by decide), keepC1 _ main_arg4 (by decide), keepC1 _ main_arg5 (by decide), keepC1 _ main_arg6 (by decide), keepC1 _ main_arg7 (by decide), keepC1 _ main_arg8 (by decide), keepC1 _ main_arg9 (by decide), keepC1 _ main_arg10 (by decide)]
  rw [stB1, stB2]
  rw [keepB _ main_v19 (by decide), keepB _ main_arg1 (by decide), keepB _ main_arg2 (by decide), keepB _ main_arg3 (by decide), keepB _ main_arg4 (by decide), keepB _ main_arg5 (by decide), keepB _ main_arg6 (by decide), keepB _ main_arg7 (by decide), keepB _ main_arg8 (by decide), keepB _ main_arg9 (by decide), keepB _ main_arg10 (by decide)]
  rw [stA]
  rw [keepA _ main_arg0 (by decide), keepA _ main_arg1 (by decide), keepA _ main_arg2 (by decide), keepA _ main_arg3 (by decide), keepA _ main_arg4 (by decide), keepA _ main_arg5 (by decide), keepA _ main_arg6 (by decide), keepA _ main_arg7 (by decide), keepA _ main_arg8 (by decide), keepA _ main_arg9 (by decide), keepA _ main_arg10 (by decide)]

end stages

theorem fresh : (ops : List (HloOp τ sig (Elt F))).Forall fun op => op.fresh = ∅ := by
  unfold ops opsC1 opsC2
  simp only [List.forall_append]
  repeat' constructor

/-- Every execution of the reference ends, its result the whole reference of its arguments, the arguments unchanged. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v165) = refAll (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0 :=
  (θ_run defs _ _).mono (fun _ h => ⟨fun c => ⟨(h c main_v165).trans (all_out _),
      (h c main_arg0).trans (all_kept _ main_arg0 (by decide)),
      (h c main_arg1).trans (all_kept _ main_arg1 (by decide)),
      (h c main_arg2).trans (all_kept _ main_arg2 (by decide)),
      (h c main_arg3).trans (all_kept _ main_arg3 (by decide)),
      (h c main_arg4).trans (all_kept _ main_arg4 (by decide)),
      (h c main_arg5).trans (all_kept _ main_arg5 (by decide)),
      (h c main_arg6).trans (all_kept _ main_arg6 (by decide)),
      (h c main_arg7).trans (all_kept _ main_arg7 (by decide)),
      (h c main_arg8).trans (all_kept _ main_arg8 (by decide)),
      (h c main_arg9).trans (all_kept _ main_arg9 (by decide)),
      (h c main_arg10).trans (all_kept _ main_arg10 (by decide)),
      (h c main_arg11).trans (all_kept _ main_arg11 (by decide)),
      (h c main_arg12).trans (all_kept _ main_arg12 (by decide))⟩, sem_eq_zero_of_no_sems (by decide) _⟩)
    (run_seq scopedRefs_eq scopedSems_eq defs main (fun _ => ops) main_eq (fun _ => ops_sub) m ρ (fun _ => List.forall_iff_forall_mem.mp fresh))

end Cert.RefRun

end
-- ==== Proof.Setup.lean ====
/-
  The launch's set-up of the expert call read at the extended reals: the host operations before and after the
  region, the prefetched table, the windows' blocks, the staging buffers and the two conditions of the body.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fetch0_0 (a : (pcfg0 (F := F)).Adm) : ∀ t : Fin (cfg0 a).N, ((cfg0 a).win 0).fetch t = true ↔ t.val % 2 = 0 :=
  (fun t => Pipeline.Window.fetchOf_reads cc0_transform_0 reads0_0 hreads0_0 0 (by decide) (by decide) (Pipeline.Window.sep_of_coord cc0_transform_0 0 0 (fun _ => rfl) (by decide)) (P := 2) (by decide) t : ∀ t : Fin grid0.N, Pipeline.Window.fetchOf grid0 false cc0_transform_0 t = true ↔ t.val % 2 = 0)
theorem fetch0_4 (a : (pcfg0 (F := F)).Adm) : ∀ t : Fin (cfg0 a).N, ((cfg0 a).win 4).fetch t = true ↔ t.val % 2 = 0 :=
  (fun t => Pipeline.Window.fetchOf_reads cc0_transform_4 reads0_4 hreads0_4 0 (by decide) (by decide) (Pipeline.Window.sep_of_coord cc0_transform_4 0 0 (fun _ => rfl) (by decide)) (P := 2) (by decide) t : ∀ t : Fin grid0.N, Pipeline.Window.fetchOf grid0 false cc0_transform_4 t = true ↔ t.val % 2 = 0)
theorem fetch0_5 (a : (pcfg0 (F := F)).Adm) : ∀ t : Fin (cfg0 a).N, ((cfg0 a).win 5).fetch t = true ↔ t.val % 16 = 0 :=
  (fun t => Pipeline.Window.fetchOf_const cc0_transform_5 (fun _ _ => rfl) (n := 16) (by decide) t : ∀ t : Fin grid0.N, Pipeline.Window.fetchOf grid0 false cc0_transform_5 t = true ↔ t.val % 16 = 0)
theorem flush0_6 (a : (pcfg0 (F := F)).Adm) : ∀ t : Fin (cfg0 a).N, ((cfg0 a).win 6).flush t = true ↔ t.val % 2 = 1 :=
  (fun t => Pipeline.Window.flushOf_reads cc0_transform_6 reads0_6 hreads0_6 0 (by decide) (by decide) (Pipeline.Window.sep_of_coord cc0_transform_6 0 0 (fun _ => rfl) (by decide)) (P := 2) (m := 1) (by decide) rfl t : ∀ t : Fin grid0.N, Pipeline.Window.flushOf grid0 true cc0_transform_6 t = true ↔ t.val % 2 = 1)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

abbrev bodyAt0 (a : (pcfg0 (F := F)).Adm) (t : Fin (cfg0 a).N) : Prog (TpuEff nD τ sig (Elt F) Λ₀ .tc) PUnit :=
  cc0__moe_kernel (grid0.coords t) (Memref.whole main_v19) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _)

abbrev V0 (c : Dev nD) : Valuation τ sig (Elt F) := StableHlo.after (List.flatten [hostOps0, hostOps0_1, hostOps0_2, hostOps0_3, hostOps0_4]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S16 .i32 := Memref.whole main_v19
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg8 = m ((c : Thread nD τ).loc main_arg8) := by
  unfold Pipeline.afterTail
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg9 = m ((c : Thread nD τ).loc main_arg9) := by
  unfold Pipeline.afterTail
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg10 = m ((c : Thread nD τ).loc main_arg10) := by
  unfold Pipeline.afterTail
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg11 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg11 = m ((c : Thread nD τ).loc main_arg11) := by
  unfold Pipeline.afterTail
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := k0_cond1 i = 1#1
theorem hcond0_0 : ∀ t : Fin grid0.N, cond0_0 (grid0.coords t) ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 2 = 0)

abbrev cond0_1 (i : grid0.Coords) : Prop := k0_cond2 i = 1#1
theorem hcond0_1 : ∀ t : Fin grid0.N, cond0_1 (grid0.coords t) ↔ t.val % 2 = 1 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 1)

theorem liveAt0_0 (hO : Ok m) : ∀ t : Fin (cfgM m hO).N, (cfgM m hO).idle 0 (grid0.coords t) = false :=
  (fun _ => rfl : ∀ t : Fin grid0.N, idle0 0 (grid0.coords t) = false)
theorem liveAt0_1 (hO : Ok m) : ∀ t : Fin (cfgM m hO).N, (cfgM m hO).idle 1 (grid0.coords t) = false :=
  (fun _ => rfl : ∀ t : Fin grid0.N, idle0 1 (grid0.coords t) = false)
theorem liveAt0_2 (hO : Ok m) : ∀ t : Fin (cfgM m hO).N, (cfgM m hO).idle 2 (grid0.coords t) = false :=
  (fun _ => rfl : ∀ t : Fin grid0.N, idle0 2 (grid0.coords t) = false)
theorem liveAt0_3 (hO : Ok m) : ∀ t : Fin (cfgM m hO).N, (cfgM m hO).idle 3 (grid0.coords t) = false :=
  (fun _ => rfl : ∀ t : Fin grid0.N, idle0 3 (grid0.coords t) = false)
theorem liveAt0_4 (hO : Ok m) : ∀ t : Fin (cfgM m hO).N, (cfgM m hO).idle 4 (grid0.coords t) = false :=
  (fun _ => rfl : ∀ t : Fin grid0.N, idle0 4 (grid0.coords t) = false)
theorem liveAt0_5 (hO : Ok m) : ∀ t : Fin (cfgM m hO).N, (cfgM m hO).idle 5 (grid0.coords t) = false :=
  (fun _ => rfl : ∀ t : Fin grid0.N, idle0 5 (grid0.coords t) = false)

abbrev ms0_0 (hO : Ok m) (t : Fin (cfgM m hO).N) : Memref sig .tc .vmem S1x96x3968 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x9x96x96 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x9x96x96 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x96x8 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x2 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x3712 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x96x3712 .f32 := spec0_6.stage ((cfgM m hO).slots t 6)
abbrev hs0_6 (hO : Ok m) (t : Fin (cfgM m hO).N) : (ms0_6 m hO t).IsWhole := hstage0_6 (((cfgM m hO).slots t 6).cast nbuf0_6)
abbrev scM0_0 : Memref sig .tc .vmem S96x3968 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.Body.lean ====
/-
  What the body of the expert call computes at a point of its grid, and its run at a point of either kind.
-/
module

public import proofs.«01_k».proof.Proof.Setup

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first layer's result: nine products, the first scale and shift, the rectifier and the mask. -/
def layer1 (x0 : Vec F S1x96x3968 .bf16) (x1 : Vec F S1x9x96x96 .bf16) (x3 : Vec F S1x96x8 .f32) (x5 : Vec F S1x3712 .f32) :
    FVec F S96x3712 .f32 :=
  k0_pay12 (k0_pay5 x3) (k0_pay6 x3)
    (k0_pay10 (k0_pay9 (View.ld x1 (Rect.unit (s := S1x9x96x96) ![0, 0, 0, 0] S1x1x96x96.size inb_S1x9x96x96_S1x1x96x96_0_0_0_0)) (View.ld x0 (Rect.unit (s := S1x96x3968) ![0, 0, 63] S1x96x3712.size inb_S1x96x3968_S1x96x3712_0_0_63))
        (View.ld x1 (Rect.unit (s := S1x9x96x96) ![0, 1, 0, 0] S1x1x96x96.size inb_S1x9x96x96_S1x1x96x96_0_1_0_0)) (View.ld x0 (Rect.unit (s := S1x96x3968) ![0, 0, 64] S1x96x3712.size inb_S1x96x3968_S1x96x3712_0_0_64)))
      (View.ld x1 (Rect.unit (s := S1x9x96x96) ![0, 2, 0, 0] S1x1x96x96.size inb_S1x9x96x96_S1x1x96x96_0_2_0_0)) (View.ld x0 (Rect.unit (s := S1x96x3968) ![0, 0, 65] S1x96x3712.size inb_S1x96x3968_S1x96x3712_0_0_65))
      (View.ld x1 (Rect.unit (s := S1x9x96x96) ![0, 3, 0, 0] S1x1x96x96.size inb_S1x9x96x96_S1x1x96x96_0_3_0_0)) (View.ld x0 (Rect.unit (s := S1x96x3968) ![0, 0, 127] S1x96x3712.size inb_S1x96x3968_S1x96x3712_0_0_127))
      (View.ld x1 (Rect.unit (s := S1x9x96x96) ![0, 4, 0, 0] S1x1x96x96.size inb_S1x9x96x96_S1x1x96x96_0_4_0_0)) (View.ld x0 (Rect.unit (s := S1x96x3968) ![0, 0, 128] S1x96x3712.size inb_S1x96x3968_S1x96x3712_0_0_128))
      (View.ld x1 (Rect.unit (s := S1x9x96x96) ![0, 5, 0, 0] S1x1x96x96.size inb_S1x9x96x96_S1x1x96x96_0_5_0_0)) (View.ld x0 (Rect.unit (s := S1x96x3968) ![0, 0, 129] S1x96x3712.size inb_S1x96x3968_S1x96x3712_0_0_129)))
    (k0_pay11 (View.ld x1 (Rect.unit (s := S1x9x96x96) ![0, 6, 0, 0] S1x1x96x96.size inb_S1x9x96x96_S1x1x96x96_0_6_0_0))) (View.ld x0 (Rect.unit (s := S1x96x3968) ![0, 0, 191] S1x96x3712.size inb_S1x96x3968_S1x96x3712_0_0_191))
    (View.ld x1 (Rect.unit (s := S1x9x96x96) ![0, 7, 0, 0] S1x1x96x96.size inb_S1x9x96x96_S1x1x96x96_0_7_0_0)) (View.ld x0 (Rect.unit (s := S1x96x3968) ![0, 0, 192] S1x96x3712.size inb_S1x96x3968_S1x96x3712_0_0_192))
    (View.ld x1 (Rect.unit (s := S1x9x96x96) ![0, 8, 0, 0] S1x1x96x96.size inb_S1x9x96x96_S1x1x96x96_0_8_0_0)) (View.ld x0 (Rect.unit (s := S1x96x3968) ![0, 0, 193] S1x96x3712.size inb_S1x96x3968_S1x96x3712_0_0_193)) x5

/-- The scratch after its three stores: the layer's result between two zero margins. -/
def hidden (x0 : Vec F S1x96x3968 .bf16) (x1 : Vec F S1x9x96x96 .bf16) (x3 : Vec F S1x96x8 .f32) (x5 : Vec F S1x3712 .f32) :
    Vec F S96x3968 .bf16 :=
  View.canon [(⟨Rect.unit ![0, 128] S96x3712.size inb_S96x3968_S96x3712_0_128, k0_pay16 (layer1 x0 x1 x3 x5)⟩ : View.Piece (Elt F) S96x3968 .bf16),
    ⟨Rect.unit ![0, 3840] S96x128.size inb_S96x3968_S96x128_0_3840, k0_pay15 k0_pay14⟩,
    ⟨Rect.unit ![0, 0] S96x128.size inb_S96x3968_S96x128_0_0, k0_pay13⟩]

/-- The second layer's nine products. -/
def layer2 (x0 : Vec F S1x96x3968 .bf16) (x1 x2 : Vec F S1x9x96x96 .bf16) (x3 : Vec F S1x96x8 .f32) (x5 : Vec F S1x3712 .f32) :
    FVec F S96x3712 .f32 :=
  k0_pay18 (k0_pay17 (View.ld x2 (Rect.unit (s := S1x9x96x96) ![0, 0, 0, 0] S1x1x96x96.size inb_S1x9x96x96_S1x1x96x96_0_0_0_0)) (View.ld (hidden x0 x1 x3 x5) (Rect.unit (s := S96x3968) ![0, 63] S96x3712.size inb_S96x3968_S96x3712_0_63))
      (View.ld x2 (Rect.unit (s := S1x9x96x96) ![0, 1, 0, 0] S1x1x96x96.size inb_S1x9x96x96_S1x1x96x96_0_1_0_0)) (View.ld (hidden x0 x1 x3 x5) (Rect.unit (s := S96x3968) ![0, 64] S96x3712.size inb_S96x3968_S96x3712_0_64))
      (View.ld x2 (Rect.unit (s := S1x9x96x96) ![0, 2, 0, 0] S1x1x96x96.size inb_S1x9x96x96_S1x1x96x96_0_2_0_0)) (View.ld (hidden x0 x1 x3 x5) (Rect.unit (s := S96x3968) ![0, 65] S96x3712.size inb_S96x3968_S96x3712_0_65))
      (View.ld x2 (Rect.unit (s := S1x9x96x96) ![0, 3, 0, 0] S1x1x96x96.size inb_S1x9x96x96_S1x1x96x96_0_3_0_0)) (View.ld (hidden x0 x1 x3 x5) (Rect.unit (s := S96x3968) ![0, 127] S96x3712.size inb_S96x3968_S96x3712_0_127)))
    (View.ld x2 (Rect.unit (s := S1x9x96x96) ![0, 4, 0, 0] S1x1x96x96.size inb_S1x9x96x96_S1x1x96x96_0_4_0_0)) (View.ld (hidden x0 x1 x3 x5) (Rect.unit (s := S96x3968) ![0, 128] S96x3712.size inb_S96x3968_S96x3712_0_128))
    (View.ld x2 (Rect.unit (s := S1x9x96x96) ![0, 5, 0, 0] S1x1x96x96.size inb_S1x9x96x96_S1x1x96x96_0_5_0_0)) (View.ld (hidden x0 x1 x3 x5) (Rect.unit (s := S96x3968) ![0, 129] S96x3712.size inb_S96x3968_S96x3712_0_129))
    (View.ld x2 (Rect.unit (s := S1x9x96x96) ![0, 6, 0, 0] S1x1x96x96.size inb_S1x9x96x96_S1x1x96x96_0_6_0_0)) (View.ld (hidden x0 x1 x3 x5) (Rect.unit (s := S96x3968) ![0, 191] S96x3712.size inb_S96x3968_S96x3712_0_191))
    (View.ld x2 (Rect.unit (s := S1x9x96x96) ![0, 7, 0, 0] S1x1x96x96.size inb_S1x9x96x96_S1x1x96x96_0_7_0_0)) (View.ld (hidden x0 x1 x3 x5) (Rect.unit (s := S96x3968) ![0, 192] S96x3712.size inb_S96x3968_S96x3712_0_192))
    (View.ld x2 (Rect.unit (s := S1x9x96x96) ![0, 8, 0, 0] S1x1x96x96.size inb_S1x9x96x96_S1x1x96x96_0_8_0_0)) (View.ld (hidden x0 x1 x3 x5) (Rect.unit (s := S96x3968) ![0, 193] S96x3712.size inb_S96x3968_S96x3712_0_193))

/-- What the point at second coordinate 0 stores. -/
def outFirst (k : BitVec 32) (x0 : Vec F S1x96x3968 .bf16) (x1 x2 : Vec F S1x9x96x96 .bf16) (x3 : Vec F S1x96x8 .f32)
    (x4 : Vec F S1x1x2 .f32) (x5 : Vec F S1x3712 .f32) : Vec F S1x96x3712 .f32 :=
  k0_pay2 k (k0_pay7 x3) (k0_pay8 x3) (layer2 x0 x1 x2 x3 x5) (View.ld x0 (Rect.unit (s := S1x96x3968) ![0, 0, 128] S1x96x3712.size inb_S1x96x3968_S1x96x3712_0_0_128)) x4

/-- What the point at second coordinate 1 stores, over what the buffer held. -/
def outSecond (k : BitVec 32) (x0 : Vec F S1x96x3968 .bf16) (x1 x2 : Vec F S1x9x96x96 .bf16) (x3 : Vec F S1x96x8 .f32)
    (x4 : Vec F S1x1x2 .f32) (x5 : Vec F S1x3712 .f32) (xo : Vec F S1x96x3712 .f32) : Vec F S1x96x3712 .f32 :=
  k0_pay3 k (k0_pay7 x3) (k0_pay8 x3) (layer2 x0 x1 x2 x3 x5) (View.ld x0 (Rect.unit (s := S1x96x3968) ![0, 0, 128] S1x96x3712.size inb_S1x96x3968_S1x96x3712_0_0_128)) x4 xo

theorem zeros2 : (![0, 0] : Fin 2 → ℕ) = fun _ => 0 := by funext a; fin_cases a <;> rfl
theorem zeros3 : (![0, 0, 0] : Fin 3 → ℕ) = fun _ => 0 := by funext a; fin_cases a <;> rfl

/-- Storing through the whole rectangle leaves the stored value, at every shape. -/
theorem canon_whole {S : Shape} {e : EltTy} {off : Fin S.rank → ℕ} (h : off = fun _ => 0) (inb : ∀ a, off a + S.size a ≤ S.size a)
    {sp : Space} (v : View sig .tc sp S e) (f : v.ty.Contents (Elt F)) (w : S.Idx → Elt F e) :
    v.read (Elt F) (v.writes (Elt F) f [(⟨Rect.unit off S.size inb, w⟩ : View.Piece (Elt F) S e)]) = w := by
  rw [View.read_writes_eq_canon v f _ fun y => ⟨_, List.mem_singleton_self _, by
    subst h; rw [Rect.mem_set_unit]; intro a; exact ⟨Nat.zero_le _, by rw [Nat.zero_add]; exact (y a).isLt⟩⟩]
  exact View.canon_unit_zero h inb w

/-- A buffer of the output's kind after one store through the whole rectangle reads as the stored value. -/
theorem read_whole {sp : Space} (v : View sig .tc sp S1x96x3712 .f32) (f : v.ty.Contents (Elt F)) (w : Vec F S1x96x3712 .f32) :
    v.read (Elt F) (v.writes (Elt F) f
      [(⟨Rect.unit (s := S1x96x3712) ![0, 0, 0] S1x96x3712.size inb_S1x96x3712_S1x96x3712_0_0_0, w⟩ : View.Piece (Elt F) S1x96x3712 .f32)]) = w :=
  canon_whole (S := S1x96x3712) zeros3 _ v f w

/-- A load from a buffer held whole at `x` reads `x` through the rectangle. -/
theorem load_unread {s : Shape} {e : EltTy} {sp : Space} (M : Memref sig .tc sp s e) (h : M.IsWhole) (x : Vec F s e) (r : Rect s) :
    View.readAt (Elt F) M.view r.toLoadRect (h.unread x) = View.ld x r := by
  rw [View.readAt_eq_ld, h.read_unread]

/-- A load after stores into fresh contents reads their canon. -/
theorem cov_ld {s : Shape} {e : EltTy} {sp : Space} (v : View sig .tc sp s e) (L : List (View.Piece (Elt F) s e)) (r : Rect s) :
    v.readCov L r.toLoadRect = View.ld (View.canon L) r := View.readCov_eq_canon' v L r.toLoadRect

set_option maxHeartbeats 1000000 in
/-- The body at a point where the second coordinate is 0: the output buffer ends at the named value, the inputs stay. -/
theorem bodyRunA (c : Dev nD) (i : grid0.Coords)
    (arg3 : Memref sig .tc .vmem S1x96x3968 .bf16) (harg3 : arg3.IsWhole)
    (arg4 : Memref sig .tc .vmem S1x9x96x96 .bf16) (harg4 : arg4.IsWhole)
    (arg5 : Memref sig .tc .vmem S1x9x96x96 .bf16) (harg5 : arg5.IsWhole)
    (arg6 : Memref sig .tc .vmem S1x96x8 .f32) (harg6 : arg6.IsWhole)
    (arg7 : Memref sig .tc .vmem S1x1x2 .f32) (harg7 : arg7.IsWhole)
    (arg8 : Memref sig .tc .vmem S1x3712 .f32) (harg8 : arg8.IsWhole)
    (arg9 : Memref sig .tc .vmem S1x96x3712 .f32) (harg9 : arg9.IsWhole)
    (arg10 : Memref sig .tc .vmem S96x3968 .bf16) (harg10 : arg10.IsWhole)
    (hc0 : cond0_0 i) (hc1 : ¬ cond0_1 i)
    (x0 : Vec F S1x96x3968 .bf16) (x1 x2 : Vec F S1x9x96x96 .bf16) (x3 : Vec F S1x96x8 .f32) (x4 : Vec F S1x1x2 .f32)
    (x5 : Vec F S1x3712 .f32) (xt0 : TbBuf0 (F := F) c tbM0_0) :
     ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outFirst (BitVec.ofNat 32 (i 1).val) x0 x1 x2 x3 x4 x5) ∗ (∃ d, owns (c : Thread nD τ) arg10 fullShare d) ∗ tbPt0 c tbM0_0 xt0) -∗ K ⟨⟩))
          ⊢ wp frame (wpE (defs₀ (F := F)) Variants.none c none) E (cc0__moe_kernel i tbM0_0 htbM0_0 arg3 harg3 arg4 harg4 arg5 harg5 arg6 harg6 arg7 harg7 arg8 harg8 arg9 harg9 arg10 harg10) K := by
  intro E K
  simp only [cc0__moe_kernel_eq_skeleton]; unfold cc0__moe_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    refine (read_whole _ _ _).trans ?_
    have e3 : View.readAt (Elt F) arg6.view (Rect.unit (s := S1x96x8) ![0, 0, 0] S1x96x8.size inb_S1x96x8_S1x96x8_0_0_0).toLoadRect (harg6.unread x3) = x3 :=
      (load_unread arg6 harg6 x3 _).trans (View.ld_unit_zero (S := S1x96x8) zeros3 _ x3)
    have e4 : View.readAt (Elt F) arg7.view (Rect.unit (s := S1x1x2) ![0, 0, 0] S1x1x2.size inb_S1x1x2_S1x1x2_0_0_0).toLoadRect (harg7.unread x4) = x4 :=
      (load_unread arg7 harg7 x4 _).trans (View.ld_unit_zero (S := S1x1x2) zeros3 _ x4)
    have e5 : View.readAt (Elt F) arg8.view (Rect.unit (s := S1x3712) ![0, 0] S1x3712.size inb_S1x3712_S1x3712_0_0).toLoadRect (harg8.unread x5) = x5 :=
      (load_unread arg8 harg8 x5 _).trans (View.ld_unit_zero (S := S1x3712) zeros2 _ x5)
    have h1 : bodyRunA.sl.r_7 c arg3 harg3 arg4 harg4 arg6 harg6 arg8 harg8 x0 x1 x3 x5 = layer1 x0 x1 x3 x5 := by
      delta bodyRunA.sl.r_7 bodyRunA.sl.r_6 bodyRunA.sl.r_5 bodyRunA.sl.r_4 bodyRunA.sl.r_1 bodyRunA.sl.r layer1
      rw [e3, e5]
      repeat rw [load_unread]
    have hs : bodyRunA.sl.HS0_3 c arg3 harg3 arg4 harg4 arg6 harg6 arg8 harg8 x0 x1 x3 x5 = [(⟨Rect.unit ![0, 128] S96x3712.size inb_S96x3968_S96x3712_0_128, k0_pay16 (layer1 x0 x1 x3 x5)⟩ : View.Piece (Elt F) S96x3968 .bf16),
        ⟨Rect.unit ![0, 3840] S96x128.size inb_S96x3968_S96x128_0_3840, k0_pay15 k0_pay14⟩,
        ⟨Rect.unit ![0, 0] S96x128.size inb_S96x3968_S96x128_0_0, k0_pay13⟩] := by
      delta bodyRunA.sl.HS0_3
      rw [h1]
    have h2 : bodyRunA.sl.r_9 c arg3 harg3 arg4 harg4 arg5 harg5 arg6 harg6 arg8 harg8 arg10 x0 x1 x2 x3 x5 = layer2 x0 x1 x2 x3 x5 := by
      delta bodyRunA.sl.r_9 bodyRunA.sl.r_8 bodyRunA.sl.v98 bodyRunA.sl.v102 bodyRunA.sl.v107 bodyRunA.sl.v112 bodyRunA.sl.v117 bodyRunA.sl.v122 bodyRunA.sl.v127 bodyRunA.sl.v132 bodyRunA.sl.v137 layer2 hidden
      rw [hs]
      generalize layer1 x0 x1 x3 x5 = z
      repeat rw [load_unread]
      repeat rw [cov_ld]
    rw [h2]
    delta bodyRunA.sl.r_2 bodyRunA.sl.r_3 bodyRunA.sl.r_10 outFirst
    generalize layer2 x0 x1 x2 x3 x5 = z
    rw [e3, load_unread arg3]
    exact congrArg _ e4
  isplitl [HS0]
  · iexists _, _; isplitr; swap; · iexact HS0
    ipureintro; rfl
  iexact HT0

set_option maxHeartbeats 1000000 in
/-- The body at a point where the second coordinate is 1: the output buffer ends at the named value, the inputs stay. -/
theorem bodyRunB (c : Dev nD) (i : grid0.Coords)
    (arg3 : Memref sig .tc .vmem S1x96x3968 .bf16) (harg3 : arg3.IsWhole)
    (arg4 : Memref sig .tc .vmem S1x9x96x96 .bf16) (harg4 : arg4.IsWhole)
    (arg5 : Memref sig .tc .vmem S1x9x96x96 .bf16) (harg5 : arg5.IsWhole)
    (arg6 : Memref sig .tc .vmem S1x96x8 .f32) (harg6 : arg6.IsWhole)
    (arg7 : Memref sig .tc .vmem S1x1x2 .f32) (harg7 : arg7.IsWhole)
    (arg8 : Memref sig .tc .vmem S1x3712 .f32) (harg8 : arg8.IsWhole)
    (arg9 : Memref sig .tc .vmem S1x96x3712 .f32) (harg9 : arg9.IsWhole)
    (arg10 : Memref sig .tc .vmem S96x3968 .bf16) (harg10 : arg10.IsWhole)
    (hc0 : ¬ cond0_0 i) (hc1 : cond0_1 i)
    (x0 : Vec F S1x96x3968 .bf16) (x1 x2 : Vec F S1x9x96x96 .bf16) (x3 : Vec F S1x96x8 .f32) (x4 : Vec F S1x1x2 .f32)
    (x5 : Vec F S1x3712 .f32) (xo : Vec F S1x96x3712 .f32) (xt0 : TbBuf0 (F := F) c tbM0_0) :
     ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outSecond (BitVec.ofNat 32 (i 1).val) x0 x1 x2 x3 x4 x5 xo) ∗ (∃ d, owns (c : Thread nD τ) arg10 fullShare d) ∗ tbPt0 c tbM0_0 xt0) -∗ K ⟨⟩))
          ⊢ wp frame (wpE (defs₀ (F := F)) Variants.none c none) E (cc0__moe_kernel i tbM0_0 htbM0_0 arg3 harg3 arg4 harg4 arg5 harg5 arg6 harg6 arg7 harg7 arg8 harg8 arg9 harg9 arg10 harg10) K := by
  intro E K
  simp only [cc0__moe_kernel_eq_skeleton]; unfold cc0__moe_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    refine (read_whole _ _ _).trans ?_
    have e3 : View.readAt (Elt F) arg6.view (Rect.unit (s := S1x96x8) ![0, 0, 0] S1x96x8.size inb_S1x96x8_S1x96x8_0_0_0).toLoadRect (harg6.unread x3) = x3 :=
      (load_unread arg6 harg6 x3 _).trans (View.ld_unit_zero (S := S1x96x8) zeros3 _ x3)
    have e4 : View.readAt (Elt F) arg7.view (Rect.unit (s := S1x1x2) ![0, 0, 0] S1x1x2.size inb_S1x1x2_S1x1x2_0_0_0).toLoadRect (harg7.unread x4) = x4 :=
      (load_unread arg7 harg7 x4 _).trans (View.ld_unit_zero (S := S1x1x2) zeros3 _ x4)
    have e5 : View.readAt (Elt F) arg8.view (Rect.unit (s := S1x3712) ![0, 0] S1x3712.size inb_S1x3712_S1x3712_0_0).toLoadRect (harg8.unread x5) = x5 :=
      (load_unread arg8 harg8 x5 _).trans (View.ld_unit_zero (S := S1x3712) zeros2 _ x5)
    have h1 : bodyRunB.sl.r_7 c arg3 harg3 arg4 harg4 arg6 harg6 arg8 harg8 x0 x1 x3 x5 = layer1 x0 x1 x3 x5 := by
      delta bodyRunB.sl.r_7 bodyRunB.sl.r_6 bodyRunB.sl.r_5 bodyRunB.sl.r_4 bodyRunB.sl.r_1 bodyRunB.sl.r layer1
      rw [e3, e5]
      repeat rw [load_unread]
    have hs : bodyRunB.sl.HS0_3 c arg3 harg3 arg4 harg4 arg6 harg6 arg8 harg8 x0 x1 x3 x5 = [(⟨Rect.unit ![0, 128] S96x3712.size inb_S96x3968_S96x3712_0_128, k0_pay16 (layer1 x0 x1 x3 x5)⟩ : View.Piece (Elt F) S96x3968 .bf16),
        ⟨Rect.unit ![0, 3840] S96x128.size inb_S96x3968_S96x128_0_3840, k0_pay15 k0_pay14⟩,
        ⟨Rect.unit ![0, 0] S96x128.size inb_S96x3968_S96x128_0_0, k0_pay13⟩] := by
      delta bodyRunB.sl.HS0_3
      rw [h1]
    have h2 : bodyRunB.sl.r_9 c arg3 harg3 arg4 harg4 arg5 harg5 arg6 harg6 arg8 harg8 arg10 x0 x1 x2 x3 x5 = layer2 x0 x1 x2 x3 x5 := by
      delta bodyRunB.sl.r_9 bodyRunB.sl.r_8 bodyRunB.sl.v98 bodyRunB.sl.v102 bodyRunB.sl.v107 bodyRunB.sl.v112 bodyRunB.sl.v117 bodyRunB.sl.v122 bodyRunB.sl.v127 bodyRunB.sl.v132 bodyRunB.sl.v137 layer2 hidden
      rw [hs]
      generalize layer1 x0 x1 x3 x5 = z
      repeat rw [load_unread]
      repeat rw [cov_ld]
    rw [h2]
    delta bodyRunB.sl.r_2 bodyRunB.sl.r_3 bodyRunB.sl.r_10 outSecond
    generalize layer2 x0 x1 x2 x3 x5 = z
    rw [e3, load_unread arg3]
    exact congrArg₂ _ e4 ((load_unread arg9 harg9 xo _).trans (View.ld_unit_zero (S := S1x96x3712) zeros3 _ xo))
  isplitl [HS0]
  · iexists _, _; isplitr; swap; · iexact HS0
    ipureintro; rfl
  iexact HT0

end Cert.KernelIdeal.Gen

end
-- ==== Proof.Run.lean ====
/-
  The run of the expert call: what each point leaves, the launch, the arrays after it, and the frame.
-/
module

public import proofs.«01_k».proof.Proof.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before. -/
def prev {n : ℕ} (t : Fin n) : Fin n := ⟨t.val - 1, Nat.lt_of_le_of_lt (Nat.sub_le _ _) t.isLt⟩

/-- The second coordinate of a point, as the body's word. -/
def word2 (t : Fin grid0.N) : BitVec 32 := BitVec.ofNat 32 (grid0.coords t 1).val

/-- What a point at second coordinate 0 leaves in the output's buffer. -/
def first (hO : Ok m) (c : Dev nD) (t : Fin (cfgM m hO).N) : Vec F S1x96x3712 .f32 :=
  outFirst (word2 t) (iblk m hO c 0 t) (iblk m hO c 1 t) (iblk m hO c 2 t) (iblk m hO c 3 t) (iblk m hO c 4 t) (iblk m hO c 5 t)

/-- What a point at second coordinate 1 leaves there. -/
def second (hO : Ok m) (c : Dev nD) (t : Fin (cfgM m hO).N) : Vec F S1x96x3712 .f32 :=
  outSecond (word2 t) (iblk m hO c 0 t) (iblk m hO c 1 t) (iblk m hO c 2 t) (iblk m hO c 3 t) (iblk m hO c 4 t) (iblk m hO c 5 t) (first m hO c (prev t))

/-- The proof data: inputs at their blocks, the output's buffer by the parity of the point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => if t.val % 2 = 0 then first m hO c t else second m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) :
    (dats m hO 0 c).after 6 t = if t.val % 2 = 0 then first m hO c t else second m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-- The body stores into the output's buffer at every point. -/
theorem live6 (i : grid0.Coords) : idle0 6 i = false := by
  have h : (i 1).val = 0 ∨ (i 1).val = 1 := by have : (i 1).val < 2 := (i 1).isLt; omega
  show (!(k0_cond1 i == 1#1) && !(k0_cond2 i == 1#1)) = false
  unfold k0_cond1 k0_cond2
  rcases h with h | h <;> rw [h] <;> rfl

/-- At a point of second coordinate 1 the output's buffer still holds what the point before left. -/
theorem before0_6 (hO : Ok m) (c : Dev nD) (t : Fin (cfgM m hO).N) (ht : t.val % 2 = 1) (d) :
    (dats m hO 0 c).before 6 t d = first m hO c (prev t) := by
  have hfl : ((cfgM m hO).win 6).flush ⟨t.val - 1, Nat.lt_of_le_of_lt (Nat.sub_le _ _) t.isLt⟩ = false := by
    rw [← Bool.not_eq_true, flush0_6]; show ¬ (t.val - 1) % 2 = 1; omega
  rw [(dats m hO 0 c).before_out_kept 6 rfl t (by omega) hfl live6 (fun _ _ => rfl) d, after0_6]
  rw [if_pos (show (t.val - 1) % 2 = 0 by omega)]
  rfl

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

theorem leaves0_6 (hO : Ok m) (c : Dev nD) (t : Fin (cfgM m hO).N) :
    (dats m hO 0 c).leavesExact 6 t = owns (c : Thread nD τ) (ms0_6 m hO t) fullShare ((dats m hO 0 c).after 6 t) := by
  unfold Dat.leavesExact; rw [show (cfgM m hO).idle 6 ((cfgM m hO).grid.coords t) = false from live6 _]; try rfl

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [leaves0_6, after0_6]
  by_cases h0 : t.val % 2 = 0
  · have h1 : ¬ t.val % 2 = 1 := by omega
    rw [if_pos h0]
    iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
    iapply ((bodyRunA c (grid0.coords t) _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HT0]; · iexact HT0
    iintro ⟨H0, H1, H2, H3, H4, H5, H6, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h1 : t.val % 2 = 1 := by omega
    simp only [before0_6 m hO c t h1]
    rw [if_neg h0]
    iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
    iapply ((bodyRunB c (grid0.coords t) _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (first m hO c (prev t)) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HT0]; · iexact HT0
    iintro ⟨H0, H1, H2, H3, H4, H5, H6, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- The contents of a buffer after the operations that follow the region. -/
abbrev final (hO : Ok m) (c : Dev nD) (b : Ref sig .tc) : Buf (Elt F) ((c : Thread nD τ).loc b) :=
  Pipeline.afterTail pcfgs (fun _ => adm m hO) (dats m hO) 0 (V0 m) [hostOps1] c b

set_option backward.isDefEq.respectTransparency.types false in
set_option maxHeartbeats 800000 in
theorem run_main (hO : Ok m) : θ_run defs (onTc (τ := τ) (main (F := F))) (s₀ m ρ)
    (fun r => Pipeline.FramePost (Pipeline.pin pcfgs fun _ => adm m hO) (dats m hO) 0 (final m hO) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl) (hQ' := fun _ h => h)

end Cert.KernelIdeal.Gen

end
-- ==== Proof.Table.lean ====
/-
  The routing table the expert call prefetches, and that its words name experts.
-/
module

public import proofs.«01_k».proof.Proof.Run
public import proofs.«01_k».proof.Defs
public import proofs.«01_k».proof.Proof.Gen.Pre_in_range
public import Idealize.ShloMosaic.Lib.StableHlo.RunRead
public import Idealize.ShloMosaic.Lib.ReduceAll

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The routing indices as the program is given them. -/
abbrev argTi (c : Dev nD) : IVec S8x1x2 32 := m ((c : Thread nD τ).loc main_arg11)

theorem V_v19 (c : Dev nD) : V m c main_v19 = (shapeCast S16 (argTi m c) shapeCasts_S8x1x2_S16 : IVec S16 32) := by
  show StableHlo.after (List.flatten [hostOps0, hostOps0_1, hostOps0_2, hostOps0_3, hostOps0_4]) (fun b => m (c, b)) (Proc.devRef .tc main_v19) = _
  after_reads_simp
  rfl

theorem tbl_eq : tbl m 0 = (shapeCast S16 (argTi m 0) shapeCasts_S8x1x2_S16 : IVec S16 32) := V_v19 m 0

/-- Routing indices that name experts make the prefetched table one the call accepts. -/
theorem ok_of_lt (h : ∀ i : S8x1x2.Idx, (argTi m 0 i).toNat < 8) : Ok m := by
  have key : ∀ (r : Rect S16) (h1 : r.shape.numel = 1), (Pipeline.Prefetch.Contents.at (tbl m : pre0.Contents (Elt F)) 0 r h1 : BitVec 32).toNat < 8 := by
    intro r h1
    have e : (Pipeline.Prefetch.Contents.at (tbl m : pre0.Contents (Elt F)) 0 r h1 : BitVec 32) = tbl m 0 (r.point h1) := rfl
    rw [e, tbl_eq]
    exact h _
  refine ⟨fun i => ?_, fun i => ?_, fun i => ?_⟩
  · refine ⟨fun a => ?_, .inr ?_⟩
    · have := key (Rect.unit (s := S16) (k0_off1 i) S1.size (k0_off1_inb i)) numel1_S1
      match a with
      | 0 => show (BitVec.toNat _ + 1) * 1 ≤ 8; exact (by omega : ∀ x : ℕ, x < 8 → (x + 1) * 1 ≤ 8) _ (key _ _)
      | 1 => show (0 + 1) * 9 ≤ 9; decide
      | 2 => show (0 + 1) * 96 ≤ 96; decide
      | 3 => show (0 + 1) * 96 ≤ 96; decide
    · exact .inr ⟨by decide, rfl, rfl, rfl⟩
  · refine ⟨fun a => ?_, .inr ?_⟩
    · match a with
      | 0 => show (BitVec.toNat _ + 1) * 1 ≤ 8; exact (by omega : ∀ x : ℕ, x < 8 → (x + 1) * 1 ≤ 8) _ (key _ _)
      | 1 => show (0 + 1) * 9 ≤ 9; decide
      | 2 => show (0 + 1) * 96 ≤ 96; decide
      | 3 => show (0 + 1) * 96 ≤ 96; decide
    · exact .inr ⟨by decide, rfl, rfl, rfl⟩
  · refine ⟨fun a => ?_, .inl rfl⟩
    match a with
    | 0 => show (BitVec.toNat _ + 1) * 1 ≤ 8; exact (by omega : ∀ x : ℕ, x < 8 → (x + 1) * 1 ≤ 8) _ (key _ _)
    | 1 => show (0 + 1) * 96 ≤ 96; decide
    | 2 => show (0 + 1) * 8 ≤ 8; decide

theorem subsingleton_S_ : Subsingleton Cert.Pre_in_range.S_.Idx := ⟨fun a b => funext fun i => i.elim0⟩

/-- A signed word between 0 and 8 is below 8. -/
theorem lt_of_cmp (w : BitVec 32) (h : IntOp.andi (IntOp.cmpi .sge w 0#32) (IntOp.cmpi .slt w 8#32) = 1#1) : w.toNat < 8 := by
  rw [show IntOp.cmpi .sge w 0#32 = BitVec.ofBool (BitVec.sle 0#32 w) from rfl, show IntOp.cmpi .slt w 8#32 = BitVec.ofBool (BitVec.slt w 8#32) from rfl] at h
  have h2 : (BitVec.sle 0#32 w && BitVec.slt w 8#32) = true := by
    revert h; cases BitVec.sle 0#32 w <;> cases BitVec.slt w 8#32 <;> decide
  simp only [Bool.and_eq_true, BitVec.sle_eq_decide, BitVec.slt_eq_decide, decide_eq_true_eq] at h2
  have := BitVec.toInt_eq_toNat_cond w
  have e1 : (0#32).toInt = 0 := rfl
  have e2 : (8#32).toInt = 8 := rfl
  split at this <;> omega

/-- The predicate on the routing indices, read word by word. -/
theorem lt_of_in_range (a0 : FVec F S8x96x56x56 .f32) (a1 a6 : FVec F S8x96x96x3x3 .f32) (a2 a3 a4 a5 a7 a8 a9 a10 : FVec F S8x96 .f32)
    (a11 : IVec S8x1x2 32) (a12 : FVec F S8x1x2 .f32)
    (h : Cert.Pre_in_range.fn (F := F) a0 a1 a2 a3 a4 a5 a6 a7 a8 a9 a10 a11 a12 = fun _ => 1#1) (i : S8x1x2.Idx) : (a11 i).toNat < 8 := by
  haveI := subsingleton_S_
  exact lt_of_cmp _ (Host.reduce_andi_all _ _ _ _ (fun j => j.elim0) (congrFun h _) i)

/-- The argument arrays end unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  refine (θ_run defs _ _).mono (fun r h => ⟨fun c => ?_, h.2⟩) (run_main m ρ hO)
  have hr := fun b hb => (h.1 c).2 b hb
  refine ⟨(hr main_arg0 (by exact (by decide : main_arg0 ∈ Pipeline.restRefs sig spec0))).trans (W_main_arg0 m hO (dats m hO) c), (hr main_arg1 (by exact (by decide : main_arg1 ∈ Pipeline.restRefs sig spec0))).trans (W_main_arg1 m hO (dats m hO) c), (hr main_arg2 (by exact (by decide : main_arg2 ∈ Pipeline.restRefs sig spec0))).trans (W_main_arg2 m hO (dats m hO) c), (hr main_arg3 (by exact (by decide : main_arg3 ∈ Pipeline.restRefs sig spec0))).trans (W_main_arg3 m hO (dats m hO) c), (hr main_arg4 (by exact (by decide : main_arg4 ∈ Pipeline.restRefs sig spec0))).trans (W_main_arg4 m hO (dats m hO) c), (hr main_arg5 (by exact (by decide : main_arg5 ∈ Pipeline.restRefs sig spec0))).trans (W_main_arg5 m hO (dats m hO) c), (hr main_arg6 (by exact (by decide : main_arg6 ∈ Pipeline.restRefs sig spec0))).trans (W_main_arg6 m hO (dats m hO) c), (hr main_arg7 (by exact (by decide : main_arg7 ∈ Pipeline.restRefs sig spec0))).trans (W_main_arg7 m hO (dats m hO) c), (hr main_arg8 (by exact (by decide : main_arg8 ∈ Pipeline.restRefs sig spec0))).trans (W_main_arg8 m hO (dats m hO) c), (hr main_arg9 (by exact (by decide : main_arg9 ∈ Pipeline.restRefs sig spec0))).trans (W_main_arg9 m hO (dats m hO) c), (hr main_arg10 (by exact (by decide : main_arg10 ∈ Pipeline.restRefs sig spec0))).trans (W_main_arg10 m hO (dats m hO) c), (hr main_arg11 (by exact (by decide : main_arg11 ∈ Pipeline.restRefs sig spec0))).trans (W_main_arg11 m hO (dats m hO) c), ?_⟩
  refine ((h.1 c).1 4).trans (((dats m hO 0 c).arrAt_in 4 rfl _).trans ?_)
  exact (A_eq m hO c 4).trans (V_main_arg12 m c)

end Cert.KernelIdeal.Gen

end
-- ==== Proof.Routed.lean ====
/-
  The routed call's precondition, read entry by entry.
-/
module

public import proofs.«01_k».proof.Pre_routed
public import proofs.«01_k».proof.Proof.Table
public import Idealize.ShloMosaic.Lib.IdealHost
public import Idealize.ShloMosaic.Lib.ReduceAll
public import Idealize.ShloMosaic.Lib.Pointwise

@[expose] public section

noncomputable section

namespace Cert.Pre_routed

open Idealize.ShloMosaic

instance facts : Facts where
  bcast_S_S8x1x2 := by decide
  reducesTo_S8x1x2_S_d0_1_2 := by decide
  h_S_ := by decide
  slices_S8x1x2_S8x1x1_0_0_0 := by decide
  shapeCasts_S8x1x1_S8x1 := by decide
  slices_S8x1x2_S8x1x1_0_0_1 := by decide
  reducesTo_S8x1_S_d0_1 := by decide
  bcast_S_S8x96 := by decide
  reducesTo_S8x96_S_d0_1 := by decide

theorem of_bool (p : Bool) (h : BitVec.ofBool p = 1#1) : p = true := by revert h; cases p <;> decide

theorem inf_eq : Ideal.ofBits .f32 0x7F800000#32 = ⊤ := by simp [Ideal.ofBits, Ideal.ieee]

/-- A value below infinity in magnitude is a real. -/
theorem real_of_lt (a : EReal) (h : FloatOps.cmpf (F := Ideal) (φ := .f32) .olt (FloatOps.absf (F := Ideal) (φ := .f32) a) (Ideal.ofBits .f32 0x7F800000#32) = 1#1) :
    ∃ r : ℝ, a = (r : EReal) := by
  rw [Ideal.cmpf_def, Ideal.absf_def, inf_eq] at h
  have h2 : max a (-a) < ⊤ := of_decide_eq_true (of_bool _ h)
  induction a with
  | bot => exact absurd h2 (by simp)
  | top => exact absurd h2 (by simp)
  | coe r => exact ⟨r, rfl⟩

theorem pos_of_gt (a : EReal) (h : FloatOps.cmpf (F := Ideal) (φ := .f32) .ogt a (Ideal.ofBits .f32 0x00000000#32) = 1#1) : 0 < a := by
  rw [Ideal.cmpf_def, Ideal.ofBits_zero_f32] at h
  exact of_decide_eq_true (of_bool _ h)

theorem and_one (p q : BitVec 1) (h : IntOp.andi p q = 1#1) : p = 1#1 ∧ q = 1#1 := by revert p q; decide

theorem ne_of_cmp (a b : BitVec 32) (h : IntOp.cmpi .ne a b = 1#1) : a.toNat ≠ b.toNat := by
  intro e
  rw [BitVec.eq_of_toNat_eq e] at h
  have : (b != b) = true := of_bool _ h
  simp at this

theorem subsingleton_S_ : Subsingleton S_.Idx := ⟨fun a b => funext fun i => i.elim0⟩

/-- The predicate's parts. -/
theorem parts (a0 : FVec Ideal S8x96x56x56 .f32) (a1 a6 : FVec Ideal S8x96x96x3x3 .f32) (a2 a3 a4 a5 a7 a8 a9 a10 : FVec Ideal S8x96 .f32)
    (a11 : IVec S8x1x2 32) (a12 : FVec Ideal S8x1x2 .f32) (h : fn (F := Ideal) a0 a1 a2 a3 a4 a5 a6 a7 a8 a9 a10 a11 a12 = fun _ => 1#1) :
    (∀ i : S8x1x2.Idx, (a11 i).toNat < 8) ∧ (∀ b : Fin 8, (a11 (ix3 b 0 0)).toNat ≠ (a11 (ix3 b 0 1)).toNat)
      ∧ (∀ i : S8x96.Idx, ∃ r : ℝ, a2 i = (r : EReal)) ∧ (∀ i : S8x96.Idx, ∃ r : ℝ, a4 i = (r : EReal)) ∧ (∀ i : S8x96.Idx, 0 < a5 i + Ideal.ofBits .f32 0x3727C5AC#32)
      ∧ (∀ i : S8x96.Idx, ∃ r : ℝ, a7 i = (r : EReal)) ∧ (∀ i : S8x96.Idx, ∃ r : ℝ, a9 i = (r : EReal)) ∧ ∀ i : S8x96.Idx, 0 < a10 i + Ideal.ofBits .f32 0x3727C5AC#32 := by
  haveI := subsingleton_S_
  have e := congrFun h ix0
  obtain ⟨e, q8⟩ := and_one _ _ e
  obtain ⟨e, q7⟩ := and_one _ _ e
  obtain ⟨e, q6⟩ := and_one _ _ e
  obtain ⟨e, q5⟩ := and_one _ _ e
  obtain ⟨e, q4⟩ := and_one _ _ e
  obtain ⟨e, q3⟩ := and_one _ _ e
  obtain ⟨q1, q2⟩ := and_one _ _ e
  refine ⟨fun i => ?_, fun b => ?_, fun i => ?_, fun i => ?_, fun i => ?_, fun i => ?_, fun i => ?_, fun i => ?_⟩
  · exact Cert.KernelIdeal.Gen.lt_of_cmp _ (Host.reduce_andi_all _ _ _ _ ix0 q1 i)
  · have r := Host.reduce_andi_all _ _ _ _ ix0 q2 (ix2 b 0)
    refine ne_of_cmp _ _ (Eq.trans ?_ r)
    pointwise []
  · exact real_of_lt _ (Host.reduce_andi_all _ _ _ _ ix0 q3 i)
  · exact real_of_lt _ (Host.reduce_andi_all _ _ _ _ ix0 q4 i)
  · exact pos_of_gt _ (Host.reduce_andi_all _ _ _ _ ix0 q5 i)
  · exact real_of_lt _ (Host.reduce_andi_all _ _ _ _ ix0 q6 i)
  · exact real_of_lt _ (Host.reduce_andi_all _ _ _ _ ix0 q7 i)
  · exact pos_of_gt _ (Host.reduce_andi_all _ _ _ _ ix0 q8 i)

end Cert.Pre_routed

end
-- ==== Proof.KRun.lean ====
/-
  The expert call's run, its result named.
-/
module

public import proofs.«01_k».proof.Proof.Table

@[expose] public section

set_option maxRecDepth 16384

noncomputable section

namespace Cert.KernelIdeal.Gen

open Idealize.ShloMosaic Idealize.ShloMosaic.TcCoe Idealize.SL.Sem

variable {F : FTy → Type} [FloatOps F] (m : (ℓ : Loc nD τ sig) → Buf (Elt F) ℓ) (ρ : Dev nD → PrngReg)

/-- The result, and the argument arrays unchanged. -/
theorem run_value (hO : Ok m) : θ_run defs (onTc (τ := τ) (main (F := F))) ⟨m, fun _ => 0, ρ⟩ (fun r => ∀ c : Dev nD,
      r.2.mem ((c.tc : Thread nD τ).loc main_v22) = final m hO c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ?_) (run_main m ρ hO)
  have hr := fun b hb => (h.1 c).2 b hb
  refine ⟨hr main_v22 (by exact (by decide : main_v22 ∈ Pipeline.restRefs sig spec0)), (hr main_arg0 (by exact (by decide : main_arg0 ∈ Pipeline.restRefs sig spec0))).trans (W_main_arg0 m hO (dats m hO) c), (hr main_arg1 (by exact (by decide : main_arg1 ∈ Pipeline.restRefs sig spec0))).trans (W_main_arg1 m hO (dats m hO) c), (hr main_arg2 (by exact (by decide : main_arg2 ∈ Pipeline.restRefs sig spec0))).trans (W_main_arg2 m hO (dats m hO) c), (hr main_arg3 (by exact (by decide : main_arg3 ∈ Pipeline.restRefs sig spec0))).trans (W_main_arg3 m hO (dats m hO) c), (hr main_arg4 (by exact (by decide : main_arg4 ∈ Pipeline.restRefs sig spec0))).trans (W_main_arg4 m hO (dats m hO) c), (hr main_arg5 (by exact (by decide : main_arg5 ∈ Pipeline.restRefs sig spec0))).trans (W_main_arg5 m hO (dats m hO) c), (hr main_arg6 (by exact (by decide : main_arg6 ∈ Pipeline.restRefs sig spec0))).trans (W_main_arg6 m hO (dats m hO) c), (hr main_arg7 (by exact (by decide : main_arg7 ∈ Pipeline.restRefs sig spec0))).trans (W_main_arg7 m hO (dats m hO) c), (hr main_arg8 (by exact (by decide : main_arg8 ∈ Pipeline.restRefs sig spec0))).trans (W_main_arg8 m hO (dats m hO) c), (hr main_arg9 (by exact (by decide : main_arg9 ∈ Pipeline.restRefs sig spec0))).trans (W_main_arg9 m hO (dats m hO) c), (hr main_arg10 (by exact (by decide : main_arg10 ∈ Pipeline.restRefs sig spec0))).trans (W_main_arg10 m hO (dats m hO) c), (hr main_arg11 (by exact (by decide : main_arg11 ∈ Pipeline.restRefs sig spec0))).trans (W_main_arg11 m hO (dats m hO) c), ?_⟩
  refine ((h.1 c).1 4).trans (((dats m hO 0 c).arrAt_in 4 rfl _).trans ?_)
  exact (A_eq m hO c 4).trans (V_main_arg12 m c)

end Cert.KernelIdeal.Gen

end
-- ==== Proof.Alg.lean ====
/-
  Extended-real algebra of the expert call: the two spellings of the batch normalisation, the nine products of a
  convolution, and the two chosen experts out of eight.
-/
module

public import Idealize.ShloMosaic.PureOps.Ideal
public import Mathlib.Data.EReal.Operations
public import Mathlib.Data.EReal.Inv
public import Mathlib.Algebra.BigOperators.Group.Finset.Basic

@[expose] public section

noncomputable section

namespace Cert.Alg

open Idealize.ShloMosaic

/-- Nine terms added from the first on. -/
def nine (T : Fin 9 → EReal) : EReal := T 0 + T 1 + T 2 + T 3 + T 4 + T 5 + T 6 + T 7 + T 8

/-- Where tap `t` of a convolution starts in the flat image with its margin. -/
def st (t : Fin 9) : ℕ := 63 + 64 * (t.val / 3) + t.val % 3

theorem st_lt (t : Fin 9) (f : Fin 3712) : st t + f.val < 3968 := by unfold st; omega

/-- The batch normalisation folded into a scale and a shift, against the plain one. -/
theorem bn (a b : EReal) (g m : ℝ) (r : EReal) (hr : 0 < r) :
    a * ((g : EReal) * Ideal.rsqrt r) + (b - (m : EReal) * ((g : EReal) * Ideal.rsqrt r)) = Ideal.div (a - (m : EReal)) (Ideal.sqrt r) * (g : EReal) + b := by
  induction r with
  | bot => exact absurd hr (by simp)
  | top =>
    have e : Ideal.div (a - (m : EReal)) (Ideal.sqrt ⊤) = 0 := by
      show Ideal.div (a - (m : EReal)) ⊤ = 0
      rw [Ideal.div, if_neg (by simp)]; simp
    rw [e, Ideal.rsqrt_top]; simp
  | coe r =>
    have hr' : 0 < r := by exact_mod_cast hr
    have hs : Real.sqrt r ≠ 0 := (Real.sqrt_pos.mpr hr').ne'
    have e1 : Ideal.rsqrt (r : EReal) = (((Real.sqrt r)⁻¹ : ℝ) : EReal) := by
      rw [Ideal.rsqrt_coe, if_neg (by linarith), if_neg hr'.ne']
    have e2 : Ideal.sqrt (r : EReal) = ((Real.sqrt r : ℝ) : EReal) := by
      show (if r < 0 then ⊥ else (Real.sqrt r : EReal)) = _
      rw [if_neg (by linarith)]
    rw [e1, e2, Ideal.div_coe hs, one_div]
    have hp : 0 < (Real.sqrt r)⁻¹ := inv_pos.mpr (Real.sqrt_pos.mpr hr')
    generalize (Real.sqrt r)⁻¹ = p at hp
    rw [← EReal.coe_mul, ← EReal.coe_mul]
    induction a with
    | coe a =>
      rw [← EReal.coe_mul, ← EReal.coe_sub, ← EReal.coe_mul, ← EReal.coe_mul]
      induction b with
      | coe b => rw [← EReal.coe_sub, ← EReal.coe_add, ← EReal.coe_add]; congr 1; ring
      | top => rw [EReal.top_sub_coe, EReal.coe_add_top, EReal.coe_add_top]
      | bot => simp
    | top =>
      rw [EReal.top_sub_coe, EReal.top_mul_coe_of_pos hp]
      rcases lt_trichotomy g 0 with h | h | h
      · rw [EReal.top_mul_coe_of_neg (mul_neg_of_neg_of_pos h hp), EReal.top_mul_coe_of_neg h]; simp
      · subst h; simp
      · rw [EReal.top_mul_coe_of_pos (mul_pos h hp), EReal.top_mul_coe_of_pos h]
        induction b with
        | coe b => rw [← EReal.coe_sub, EReal.top_add_coe, EReal.top_add_coe]
        | top => rw [EReal.top_sub_coe]
        | bot => simp
    | bot =>
      rw [EReal.bot_sub, EReal.bot_mul_coe_of_pos hp]
      rcases lt_trichotomy g 0 with h | h | h
      · rw [EReal.bot_mul_coe_of_neg (mul_neg_of_neg_of_pos h hp), EReal.bot_mul_coe_of_neg h]
        induction b with
        | coe b => rw [← EReal.coe_sub, EReal.top_add_coe, EReal.top_add_coe]
        | top => rw [EReal.top_sub_coe]
        | bot => simp
      · subst h; simp
      · rw [EReal.bot_mul_coe_of_pos (mul_pos h hp), EReal.bot_mul_coe_of_pos h]; simp

/-- Eight experts, of which two have a weight. -/
theorem mix (E : Fin 8 → EReal) (e0 e1 : Fin 8) (h : e0 ≠ e1) (w0 w1 : EReal) :
    ∑ e, E e * (if e = e1 then w1 else if e = e0 then w0 else 0) = E e0 * w0 + E e1 * w1 := by
  rw [Finset.sum_eq_add e0 e1 h (fun c _ hc => by rw [if_neg hc.2, if_neg hc.1, mul_zero]) (fun h => absurd (Finset.mem_univ _) h)
    (fun h => absurd (Finset.mem_univ _) h)]
  rw [if_neg h, if_pos rfl, if_pos rfl]

end Cert.Alg

end
-- ==== Proof.KRead.lean ====
/-
  The body of the expert call read at an index, over the extended reals.
-/
module

public import proofs.«01_k».proof.Proof.Body
public import proofs.«01_k».proof.Proof.Alg
public import Idealize.ShloMosaic.Lib.Pointwise

@[expose] public section

set_option maxRecDepth 16384

noncomputable section

namespace Cert.KRead

open Cert.Alg Cert.KernelIdeal Cert.KernelIdeal.Gen Idealize.ShloMosaic

variable (x0 : Vec Ideal S1x96x3968 .bf16) (x1 x2 : Vec Ideal S1x9x96x96 .bf16) (x3 : Vec Ideal S1x96x8 .f32)
  (x4 : Vec Ideal S1x1x2 .f32) (x5 : Vec Ideal S1x3712 .f32)

/-- The scale of a layer's channel, its parameters from column `j` on. -/
def scale (j0 j3 : Fin 8) (c : Fin 96) : EReal := x3 (ix3 0 c j0) * Ideal.rsqrt (x3 (ix3 0 c j3) + Ideal.ofBits .f32 0x3727C5AC#32)
/-- Its shift. -/
def shift (j0 j1 j2 j3 : Fin 8) (c : Fin 96) : EReal := x3 (ix3 0 c j1) - x3 (ix3 0 c j2) * scale x3 j0 j3 c

theorem scale1 (c : Fin 96) : k0_pay5 x3 (ix2 c 0) = scale x3 0 3 c := by
  pointwise [k0_pay5, k0_pay4, scale]
theorem shift1 (c : Fin 96) : k0_pay6 x3 (ix2 c 0) = shift x3 0 1 2 3 c := by
  pointwise [k0_pay6, k0_pay5, k0_pay4, shift, scale]
theorem scale2 (c : Fin 96) : k0_pay7 x3 (ix2 c 0) = scale x3 4 7 c := by
  pointwise [k0_pay7, k0_pay4, scale]
theorem shift2 (c : Fin 96) : k0_pay8 x3 (ix2 c 0) = shift x3 4 5 6 7 c := by
  pointwise [k0_pay8, k0_pay7, k0_pay4, shift, scale]

/-- The nine products of a layer. -/
def conv (w : Vec Ideal S1x9x96x96 .bf16) (D : Fin 96 → Fin 3968 → EReal) (c : Fin 96) (f : Fin 3712) : EReal :=
  nine fun t => ∑ k : Fin 96, w (ix4 0 t c k) * D k ⟨st t + f.val, st_lt t f⟩

set_option maxHeartbeats 1600000 in
theorem layer1_apply (c : Fin 96) (f : Fin 3712) :
    layer1 x0 x1 x3 x5 (ix2 c f)
      = max (conv x1 (fun k p => x0 (ix3 0 k p)) c f * scale x3 0 3 c + shift x3 0 1 2 3 c) 0 * x5 (ix2 0 f) := by
  unfold layer1
  rw [← scale1, ← shift1]
  generalize k0_pay5 x3 = s
  generalize k0_pay6 x3 = sh
  pointwise [k0_pay12, k0_pay11, k0_pay10, k0_pay9]
  rfl

theorem hidden_mid (c : Fin 96) (f : Fin 3712) (h : 128 + f.val < 3968) :
    Gen.hidden x0 x1 x3 x5 (ix2 c ⟨128 + f.val, h⟩) = layer1 x0 x1 x3 x5 (ix2 c f) := by
  unfold Gen.hidden
  have e : (ix2 c ⟨128 + f.val, h⟩ : S96x3968.Idx)
      = (Rect.unit (s := S96x3968) ![0, 128] S96x3712.size inb_S96x3968_S96x3712_0_128).emb (ix2 c f) := by
    funext a
    match a with
    | ⟨0, _⟩ => exact Fin.ext (by show c.val = 0 + 1 * c.val; omega)
    | ⟨1, _⟩ => exact Fin.ext (by show 128 + f.val = 128 + 1 * f.val; omega)
  rw [e, View.canon_cons_emb]
  generalize layer1 x0 x1 x3 x5 = z
  pointwise [k0_pay16]

set_option maxHeartbeats 1600000 in
theorem layer2_apply (c : Fin 96) (f : Fin 3712) :
    layer2 x0 x1 x2 x3 x5 (ix2 c f) = conv x2 (fun k p => Gen.hidden x0 x1 x3 x5 (ix2 k p)) c f := by
  unfold layer2
  generalize Gen.hidden x0 x1 x3 x5 = z
  pointwise [k0_pay18, k0_pay17]
  rfl

/-- A point's contribution. -/
def part (k : BitVec 32) (c : Fin 96) (f : Fin 3712) : EReal :=
  max (conv x2 (fun k p => Gen.hidden x0 x1 x3 x5 (ix2 k p)) c f * scale x3 4 7 c + shift x3 4 5 6 7 c + x0 (ix3 0 c ⟨128 + f.val, by omega⟩)) 0
    * Scalar.select (Scalar.cmpi CmpIPredicate.eq k 0#32) (x4 (ix3 0 0 0)) (x4 (ix3 0 0 1))

theorem outFirst_apply (k : BitVec 32) (c : Fin 96) (f : Fin 3712) :
    outFirst k x0 x1 x2 x3 x4 x5 (ix3 0 c f) = part x0 x1 x2 x3 x4 x5 k c f := by
  unfold outFirst part
  rw [← layer2_apply, ← scale2, ← shift2]
  generalize layer2 x0 x1 x2 x3 x5 = z
  generalize k0_pay7 x3 = s
  generalize k0_pay8 x3 = sh
  pointwise [k0_pay2, k0_pay1]

theorem outSecond_apply (k : BitVec 32) (c : Fin 96) (f : Fin 3712) (xo : Vec Ideal S1x96x3712 .f32) :
    outSecond k x0 x1 x2 x3 x4 x5 xo (ix3 0 c f) = xo (ix3 0 c f) + part x0 x1 x2 x3 x4 x5 k c f := by
  unfold outSecond part
  rw [← layer2_apply, ← scale2, ← shift2]
  generalize layer2 x0 x1 x2 x3 x5 = z
  generalize k0_pay7 x3 = s
  generalize k0_pay8 x3 = sh
  pointwise [k0_pay3, k0_pay1]

end Cert.KRead

end
-- ==== Proof.Mask.lean ====
/-
  The mask of the expert call: 1 on the image, 0 on its border.
-/
module

public import proofs.«01_k».proof.Proof.Gen.KernelIdeal.Launch

@[expose] public section

set_option maxRecDepth 100000

noncomputable section

namespace Cert.KernelIdeal.Gen

/-- A flat position is inside the image. -/
def Inside (n : ℕ) : Prop := (1 ≤ n / 64 ∧ n / 64 ≤ 56) ∧ 1 ≤ n % 64 ∧ n % 64 ≤ 56

instance (n : ℕ) : Decidable (Inside n) := by unfold Inside; infer_instance

theorem mask_eq : ∀ n : Fin 3712, lit0 n = if Inside n.val then 0x3F800000#32 else 0#32 := by
  decide +kernel

end Cert.KernelIdeal.Gen

end
-- ==== Proof.RefRead.lean ====
/-
  The stages of the expert call's reference read at an index, over the extended reals.
-/
module

public import proofs.«01_k».proof.Proof.RefOps
public import proofs.«01_k».proof.Proof.Alg
public import Idealize.ShloMosaic.Lib.Pointwise

@[expose] public section

set_option maxRecDepth 16384

noncomputable section

namespace Cert.RefRead

open Cert.Alg Cert.RefRun Cert.ReferenceIdeal Cert.ReferenceIdeal.Gen Idealize.ShloMosaic

theorem xe_apply (x : FVec Ideal S8x96x56x56 .f32) (e b : Fin 8) (c : Fin 96) (y z : Fin 56) : refXe x (ix5 e b c y z) = x (ix4 b c y z) := by
  pointwise [refXe]

/-- The image with its zero border. -/
def bord (P : Fin 56 → Fin 56 → EReal) (y z : Fin 58) : EReal :=
  if h : (1 ≤ y.val ∧ y.val - 1 < 56) ∧ 1 ≤ z.val ∧ z.val - 1 < 56 then P ⟨y.val - 1, h.1.2⟩ ⟨z.val - 1, h.2.2⟩ else 0

theorem sitofp_zero : (FloatOps.sitofp FTy.f32 (0#32 : BitVec 32) : Ideal .f32) = 0 := by
  show (((0#32 : BitVec 32).toInt : ℝ) : EReal) = 0
  simp

theorem pad_apply (x : FVec Ideal S8x8x96x56x56 .f32) (e b : Fin 8) (c : Fin 96) (y z : Fin 58) :
    refPad x (ix5 e b c y z) = bord (fun y z => x (ix5 e b c y z)) y z := by
  unfold bord
  rw [← sitofp_zero]
  pointwise [refPad]

/-- The nine products. -/
def conv (w : FVec Ideal S8x96x96x3x3 .f32) (e : Fin 8) (P : Fin 96 → Fin 58 → Fin 58 → EReal) (c : Fin 96) (y z : Fin 56) : EReal :=
  nine fun t => ∑ k : Fin 96, w (ix5 e c k ⟨t.val / 3, by omega⟩ ⟨t.val % 3, by omega⟩) * P k ⟨t.val / 3 + y.val, by omega⟩ ⟨t.val % 3 + z.val, by omega⟩

theorem tap_apply (i j : ℕ) (hi : i < 3) (hj : j < 3) (hx : S8x8x96x58x58.Slices ![0, 0, 0, i, j] S8x8x96x56x56)
    (hw : S8x96x96x3x3.Slices ![0, 0, 0, i, j] S8x96x96x1x1) (xp : FVec Ideal S8x8x96x58x58 .f32) (w : FVec Ideal S8x96x96x3x3 .f32)
    (e b : Fin 8) (c : Fin 96) (y z : Fin 56) :
    refTap i j hx hw xp w (ix5 e b c y z)
      = ∑ k : Fin 96, w (ix5 e c k ⟨i, hi⟩ ⟨j, hj⟩) * xp (ix5 e b k ⟨i + y.val, by omega⟩ ⟨j + z.val, by omega⟩) := by
  have h : refTap i j hx hw xp w (ix5 e b c y z)
      = ∑ k : Fin 96, xp (ix5 e b k ⟨i + y.val, by omega⟩ ⟨j + z.val, by omega⟩) * w (ix5 e c k ⟨i, hi⟩ ⟨j, hj⟩) := by
    obtain rfl | rfl | rfl : i = 0 ∨ i = 1 ∨ i = 2 := by omega
    all_goals obtain rfl | rfl | rfl : j = 0 ∨ j = 1 ∨ j = 2 := by omega
    all_goals (pointwise [refTap]; try rfl)
  rw [h]
  exact Finset.sum_congr rfl fun k _ => mul_comm _ _

theorem conv_apply (xp : FVec Ideal S8x8x96x58x58 .f32) (w : FVec Ideal S8x96x96x3x3 .f32) (e b : Fin 8) (c : Fin 96) (y z : Fin 56) :
    refConv xp w (ix5 e b c y z) = conv w e (fun k y z => xp (ix5 e b k y z)) c y z := by
  unfold refConv conv nine
  simp only [addf_apply, Ideal.addf_def]
  rw [tap_apply 0 0 (by omega) (by omega), tap_apply 0 1 (by omega) (by omega), tap_apply 0 2 (by omega) (by omega), tap_apply 1 0 (by omega) (by omega),
    tap_apply 1 1 (by omega) (by omega), tap_apply 1 2 (by omega) (by omega), tap_apply 2 0 (by omega) (by omega), tap_apply 2 1 (by omega) (by omega),
    tap_apply 2 2 (by omega) (by omega)]
  rfl

theorem bn_apply (acc : FVec Ideal S8x8x96x56x56 .f32) (g b' m v : FVec Ideal S8x96 .f32) (e b : Fin 8) (c : Fin 96) (y z : Fin 56) :
    refBn acc g b' m v (ix5 e b c y z)
      = Ideal.div (acc (ix5 e b c y z) - m (ix2 e c)) (Ideal.sqrt (v (ix2 e c) + Ideal.ofBits .f32 0x3727C5AC#32)) * g (ix2 e c) + b' (ix2 e c) := by
  pointwise [refBn]

theorem relu_apply (a : FVec Ideal S8x8x96x56x56 .f32) (i : S8x8x96x56x56.Idx) : refRelu a i = max (a i) 0 := by
  pointwise [refRelu]

theorem mix_apply (a : FVec Ideal S8x8x96x56x56 .f32) (w : FVec Ideal S8x8 .f32) (b : Fin 8) (c : Fin 96) (y z : Fin 56) :
    refMix a w (ix4 b c y z) = ∑ e : Fin 8, a (ix5 e b c y z) * w (ix2 b e) := by
  pointwise [refMix]

theorem idx_apply (ti : IVec S8x1x2 32) (h : ∀ i, (ti i).toNat < 8) (b : Fin 8) (k : Fin 2) :
    refIdx ti (ix3 b k 0) = BitVec.ofNat 32 b.val ∧ refIdx ti (ix3 b k 1) = ti (ix3 b 0 k) := by
  have key : ∀ w : BitVec 32, w.toNat < 8 → Scalar.select (IntOp.cmpi CmpIPredicate.slt w 0#32) (IntOp.addi w 8#32) w = w := by
    intro w hw
    have e : w = BitVec.ofNat 32 (⟨w.toNat, hw⟩ : Fin 8).val := by simp
    rw [e]
    generalize (⟨w.toNat, hw⟩ : Fin 8) = n
    revert n
    decide
  constructor
  · pointwise [refIdx, refPairs]
    exact key _ (by revert b; decide)
  · pointwise [refIdx, refPairs]
    exact key _ (h _)

end Cert.RefRead

end
-- ==== Proof.KHost.lean ====
/-
  The arrays that the host lays out for the expert call, read at an index over the extended reals.
-/
module

public import proofs.«01_k».proof.Proof.Table
public import proofs.«01_k».proof.Proof.Mask
public import proofs.«01_k».proof.Proof.Alg
public import proofs.«01_k».proof.Proof.RefRead
public import Idealize.ShloMosaic.Lib.Pointwise
public import Idealize.ShloMosaic.Lib.IdealHost

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ) (c : Dev nD)

abbrev aX : FVec Ideal S8x96x56x56 .f32 := m ((c : Thread nD τ).loc main_arg0)
abbrev aW1 : FVec Ideal S8x96x96x3x3 .f32 := m ((c : Thread nD τ).loc main_arg1)
abbrev aG1 : FVec Ideal S8x96 .f32 := m ((c : Thread nD τ).loc main_arg2)
abbrev aB1 : FVec Ideal S8x96 .f32 := m ((c : Thread nD τ).loc main_arg3)
abbrev aM1 : FVec Ideal S8x96 .f32 := m ((c : Thread nD τ).loc main_arg4)
abbrev aV1 : FVec Ideal S8x96 .f32 := m ((c : Thread nD τ).loc main_arg5)
abbrev aW2 : FVec Ideal S8x96x96x3x3 .f32 := m ((c : Thread nD τ).loc main_arg6)
abbrev aG2 : FVec Ideal S8x96 .f32 := m ((c : Thread nD τ).loc main_arg7)
abbrev aB2 : FVec Ideal S8x96 .f32 := m ((c : Thread nD τ).loc main_arg8)
abbrev aM2 : FVec Ideal S8x96 .f32 := m ((c : Thread nD τ).loc main_arg9)
abbrev aV2 : FVec Ideal S8x96 .f32 := m ((c : Thread nD τ).loc main_arg10)
abbrev aTw : FVec Ideal S8x1x2 .f32 := m ((c : Thread nD τ).loc main_arg12)

/-! ## The weights -/

def wLay (w : FVec Ideal S8x96x96x3x3 .f32) : FVec Ideal S8x9x96x96 .bf16 :=
  truncf .bf16 (shapeCast S8x9x96x96 (transpose S8x3x3x96x96 [0, 3, 4, 1, 2] w transposes_S8x96x96x3x3_S8x3x3x96x96_0_3_4_1_2) shapeCasts_S8x3x3x96x96_S8x9x96x96) bitsLt_bf16_f32

theorem wLay_apply (w : FVec Ideal S8x96x96x3x3 .f32) (e : Fin 8) (t : Fin 9) (co ci : Fin 96) :
    wLay w (ix4 e t co ci) = w (ix5 e co ci ⟨t.val / 3, by omega⟩ ⟨t.val % 3, by omega⟩) := by
  unfold wLay
  pointwise []

theorem V_v6 : V m c main_v6 = wLay (aW1 m c) := by
  show StableHlo.after (List.flatten [hostOps0, hostOps0_1, hostOps0_2, hostOps0_3, hostOps0_4]) (fun b => m (c, b)) (Proc.devRef .tc main_v6) = _
  after_reads_simp
  rfl

theorem V_v9 : V m c main_v9 = wLay (aW2 m c) := by
  show StableHlo.after (List.flatten [hostOps0, hostOps0_1, hostOps0_2, hostOps0_3, hostOps0_4]) (fun b => m (c, b)) (Proc.devRef .tc main_v9) = _
  after_reads_simp
  rfl

/-! ## The image -/

def xLay (x : FVec Ideal S8x96x56x56 .f32) : FVec Ideal S8x96x3968 .bf16 :=
  truncf .bf16 (pad S8x96x3968 ![0, 0, 128] ![0, 0, 128] ![0, 0, 0]
    (shapeCast S8x96x3712 (pad S8x96x58x64 ![0, 0, 1, 1] ![0, 0, 1, 7] ![0, 0, 0, 0] x (sitofp .f32 (constantI S_ 32 0#32)) pads_S8x96x56x56_S8x96x58x64_000_000_110_170 h_S_ : FVec Ideal S8x96x58x64 .f32) shapeCasts_S8x96x58x64_S8x96x3712)
    (sitofp .f32 (constantI S_ 32 0#32)) pads_S8x96x3712_S8x96x3968_000_000_1281280 h_S_) bitsLt_bf16_f32

theorem V_v3 : V m c main_v3 = xLay (aX m c) := by
  show StableHlo.after (List.flatten [hostOps0, hostOps0_1, hostOps0_2, hostOps0_3, hostOps0_4]) (fun b => m (c, b)) (Proc.devRef .tc main_v3) = _
  after_reads_simp
  rfl

theorem xLay_apply (x : FVec Ideal S8x96x56x56 .f32) (b : Fin 8) (k : Fin 96) (y z : Fin 58) (h : 128 + (64 * y.val + z.val) < 3968) :
    xLay x (ix3 b k ⟨128 + (64 * y.val + z.val), h⟩) = Cert.RefRead.bord (fun y z => x (ix4 b k y z)) y z := by
  unfold xLay Cert.RefRead.bord
  rw [← Cert.RefRead.sitofp_zero]
  have e : (64 * y.val + z.val) % 64 = z.val := by omega
  pointwise []
  rw [dif_pos (by omega)]
  simp only [e]

/-! ## The parameters -/

def pLay (g1 b1 m1 v1 g2 b2 m2 v2 : FVec Ideal S8x96 .f32) : FVec Ideal S8x96x8 .f32 :=
  concatenate S8x96x8 2 [⟨S8x96x1, broadcastInDim S8x96x1 ![0, 1] bcast_S8x96_S8x96x1_0_1 g1⟩, ⟨S8x96x1, broadcastInDim S8x96x1 ![0, 1] bcast_S8x96_S8x96x1_0_1 b1⟩,
    ⟨S8x96x1, broadcastInDim S8x96x1 ![0, 1] bcast_S8x96_S8x96x1_0_1 m1⟩, ⟨S8x96x1, broadcastInDim S8x96x1 ![0, 1] bcast_S8x96_S8x96x1_0_1 v1⟩,
    ⟨S8x96x1, broadcastInDim S8x96x1 ![0, 1] bcast_S8x96_S8x96x1_0_1 g2⟩, ⟨S8x96x1, broadcastInDim S8x96x1 ![0, 1] bcast_S8x96_S8x96x1_0_1 b2⟩,
    ⟨S8x96x1, broadcastInDim S8x96x1 ![0, 1] bcast_S8x96_S8x96x1_0_1 m2⟩, ⟨S8x96x1, broadcastInDim S8x96x1 ![0, 1] bcast_S8x96_S8x96x1_0_1 v2⟩]
    concatenates_S8x96x1_S8x96x1_S8x96x1_S8x96x1_S8x96x1_S8x96x1_S8x96x1_S8x96x1_S8x96x8_d2

theorem V_v18 : V m c main_v18 = pLay (aG1 m c) (aB1 m c) (aM1 m c) (aV1 m c) (aG2 m c) (aB2 m c) (aM2 m c) (aV2 m c) := by
  show StableHlo.after (List.flatten [hostOps0, hostOps0_1, hostOps0_2, hostOps0_3, hostOps0_4]) (fun b => m (c, b)) (Proc.devRef .tc main_v18) = _
  after_reads_simp
  rfl

theorem pLay_apply (g1 b1 m1 v1 g2 b2 m2 v2 : FVec Ideal S8x96 .f32) (e : Fin 8) (k : Fin 96) :
    pLay g1 b1 m1 v1 g2 b2 m2 v2 (ix3 e k 0) = g1 (ix2 e k) ∧ pLay g1 b1 m1 v1 g2 b2 m2 v2 (ix3 e k 1) = b1 (ix2 e k)
    ∧ pLay g1 b1 m1 v1 g2 b2 m2 v2 (ix3 e k 2) = m1 (ix2 e k) ∧ pLay g1 b1 m1 v1 g2 b2 m2 v2 (ix3 e k 3) = v1 (ix2 e k)
    ∧ pLay g1 b1 m1 v1 g2 b2 m2 v2 (ix3 e k 4) = g2 (ix2 e k) ∧ pLay g1 b1 m1 v1 g2 b2 m2 v2 (ix3 e k 5) = b2 (ix2 e k)
    ∧ pLay g1 b1 m1 v1 g2 b2 m2 v2 (ix3 e k 6) = m2 (ix2 e k) ∧ pLay g1 b1 m1 v1 g2 b2 m2 v2 (ix3 e k 7) = v2 (ix2 e k) := by
  unfold pLay
  refine ⟨?_, ?_, ?_, ?_, ?_, ?_, ?_, ?_⟩ <;> pointwise []

/-! ## The mask -/

theorem V_cst : V m c main_cst = (fun i => (FloatOps.ofBits .f32 (lit0 (S1x3712.rowMajor i)) : Ideal .f32)) := by
  show StableHlo.after (List.flatten [hostOps0, hostOps0_1, hostOps0_2, hostOps0_3, hostOps0_4]) (fun b => m (c, b)) (Proc.devRef .tc main_cst) = _
  after_reads_simp
  rfl

theorem cst_apply (f : Fin 3712) : (V m c main_cst : FVec Ideal S1x3712 .f32) (ix2 0 f) = (if Inside f.val then 1 else 0 : EReal) := by
  rw [V_cst]
  have e : S1x3712.rowMajor (ix2 0 f) = (f : Fin 3712) := Fin.ext (by rw [Shape.rowMajor_val_two]; show 0 * 3712 + f.val = f.val; omega)
  show (FloatOps.ofBits .f32 (lit0 (S1x3712.rowMajor (ix2 0 f))) : Ideal .f32) = _
  rw [e, mask_eq]
  split
  · exact Ideal.ofBits_one_f32
  · exact Ideal.ofBits_zero_f32

end Cert.KernelIdeal.Gen

end
-- ==== Proof.KBlocks.lean ====
/-
  The blocks that a point of the expert call reads and writes.
-/
module

public import proofs.«01_k».proof.Proof.Table
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ) (hO : Ok m) (c : Dev nD)

/-- The point of image `b` and choice `k`. -/
def pt (b : Fin 8) (k : Fin 2) : Fin grid0.N := ⟨2 * b.val + k.val, by show 2 * b.val + k.val < 16; omega⟩

theorem tr0 : ∀ (b : Fin 8) (k : Fin 2), cc0_transform_0 (grid0.coords (pt b k)) = ![b.val, 0, 0] := by decide +kernel
theorem tr4 : ∀ (b : Fin 8) (k : Fin 2), cc0_transform_4 (grid0.coords (pt b k)) = ![b.val, 0, 0] := by decide +kernel
theorem tr5 : ∀ (b : Fin 8) (k : Fin 2), cc0_transform_5 (grid0.coords (pt b k)) = ![0, 0] := by decide +kernel
theorem tr6 : ∀ (b : Fin 8) (k : Fin 2), cc0_transform_6 (grid0.coords (pt b k)) = ![b.val, 0, 0] := by decide +kernel
theorem off1 : ∀ (b : Fin 8) (k : Fin 2), k0_off1 (grid0.coords (pt b k)) = ![2 * b.val + k.val] := by decide +kernel
theorem word_pt : ∀ (b : Fin 8) (k : Fin 2), word2 (pt b k) = BitVec.ofNat 32 k.val := by decide +kernel

/-- The word of the table that a point looks up. -/
theorem word_at (b : Fin 8) (k : Fin 2) (r : Rect S16) (h1 : r.shape.numel = 1) (hr : r.off = ![2 * b.val + k.val]) :
    (Pipeline.Prefetch.Contents.at (tbl m : pre0.Contents (Elt Ideal)) 0 r h1 : BitVec 32) = argTi m 0 (ix3 b 0 k) := by
  have e : (Pipeline.Prefetch.Contents.at (tbl m : pre0.Contents (Elt Ideal)) 0 r h1 : BitVec 32) = tbl m 0 (r.point h1) := rfl
  rw [e, tbl_eq]
  have hp : r.point h1 = ix1 (⟨2 * b.val + k.val, by omega⟩ : Fin 16) := by
    funext a
    obtain rfl : a = 0 := Subsingleton.elim _ _
    refine Fin.ext ?_
    have : (r.point h1 0).val = r.off 0 := rfl
    rw [this, hr]; rfl
  rw [hp]
  generalize argTi m 0 = x
  pointwise []

theorem iblk0 (b : Fin 8) (k : Fin 2) (ci : Fin 96) (p : Fin 3968) :
    (iblk m hO c 0 (pt b k) : Vec Ideal S1x96x3968 .bf16) (ix3 0 ci p) = (V m c main_v3 : FVec Ideal S8x96x3968 .bf16) (ix3 b ci p) := by
  show (V m c main_v3 : FVec Ideal S8x96x3968 .bf16) ((((cfgM m hO).win 0).blk (pt b k)).view.emb (ix3 0 ci p)) = _
  congr 1
  funext a
  refine Fin.ext ?_
  match a with
  | ⟨0, _⟩ => show cc0_transform_0 (grid0.coords (pt b k)) 0 * 1 + 1 * 0 = b.val; rw [tr0]; show b.val * 1 + 1 * 0 = _; omega
  | ⟨1, _⟩ => show cc0_transform_0 (grid0.coords (pt b k)) 1 * 96 + 1 * ci.val = ci.val; rw [tr0]; show 0 * 96 + 1 * ci.val = _; omega
  | ⟨2, _⟩ => show cc0_transform_0 (grid0.coords (pt b k)) 2 * 3968 + 1 * p.val = p.val; rw [tr0]; show 0 * 3968 + 1 * p.val = _; omega

theorem iblk4 (b : Fin 8) (k : Fin 2) (j : Fin 2) :
    (iblk m hO c 4 (pt b k) : Vec Ideal S1x1x2 .f32) (ix3 0 0 j) = (V m c main_arg12 : FVec Ideal S8x1x2 .f32) (ix3 b 0 j) := by
  show (V m c main_arg12 : FVec Ideal S8x1x2 .f32) ((((cfgM m hO).win 4).blk (pt b k)).view.emb (ix3 0 0 j)) = _
  congr 1
  funext a
  refine Fin.ext ?_
  match a with
  | ⟨0, _⟩ => show cc0_transform_4 (grid0.coords (pt b k)) 0 * 1 + 1 * 0 = b.val; rw [tr4]; show b.val * 1 + 1 * 0 = _; omega
  | ⟨1, _⟩ => show cc0_transform_4 (grid0.coords (pt b k)) 1 * 1 + 1 * 0 = 0; rw [tr4]; rfl
  | ⟨2, _⟩ => show cc0_transform_4 (grid0.coords (pt b k)) 2 * 2 + 1 * j.val = j.val; rw [tr4]; show 0 * 2 + 1 * j.val = _; omega

theorem iblk5 (b : Fin 8) (k : Fin 2) (f : Fin 3712) :
    (iblk m hO c 5 (pt b k) : Vec Ideal S1x3712 .f32) (ix2 0 f) = (V m c main_cst : FVec Ideal S1x3712 .f32) (ix2 0 f) := by
  show (V m c main_cst : FVec Ideal S1x3712 .f32) ((((cfgM m hO).win 5).blk (pt b k)).view.emb (ix2 0 f)) = _
  congr 1
  funext a
  refine Fin.ext ?_
  match a with
  | ⟨0, _⟩ => show cc0_transform_5 (grid0.coords (pt b k)) 0 * 1 + 1 * 0 = 0; rw [tr5]; rfl
  | ⟨1, _⟩ => show cc0_transform_5 (grid0.coords (pt b k)) 1 * 3712 + 1 * f.val = f.val; rw [tr5]; show 0 * 3712 + 1 * f.val = _; omega

variable (hT : ∀ i : S8x1x2.Idx, (argTi m 0 i).toNat < 8)

/-- The expert of image `b` and choice `k`. -/
def ex (b : Fin 8) (k : Fin 2) : Fin 8 := ⟨(argTi m 0 (ix3 b 0 k)).toNat, hT _⟩

theorem iblk1 (b : Fin 8) (k : Fin 2) (t : Fin 9) (co ci : Fin 96) :
    (iblk m hO c 1 (pt b k) : Vec Ideal S1x9x96x96 .bf16) (ix4 0 t co ci) = (V m c main_v6 : FVec Ideal S8x9x96x96 .bf16) (ix4 (ex m hT b k) t co ci) := by
  show (V m c main_v6 : FVec Ideal S8x9x96x96 .bf16) ((((cfgM m hO).win 1).blk (pt b k)).view.emb (ix4 0 t co ci)) = _
  congr 1
  funext a
  refine Fin.ext ?_
  match a with
  | ⟨0, _⟩ =>
    show (Pipeline.Prefetch.Contents.at (tbl m : pre0.Contents (Elt Ideal)) 0 _ _ : BitVec 32).toNat * 1 + 1 * 0 = (argTi m 0 (ix3 b 0 k)).toNat
    rw [word_at m b k _ _ (off1 b k)]; omega
  | ⟨1, _⟩ => show 0 * 9 + 1 * t.val = t.val; omega
  | ⟨2, _⟩ => show 0 * 96 + 1 * co.val = co.val; omega
  | ⟨3, _⟩ => show 0 * 96 + 1 * ci.val = ci.val; omega

theorem iblk2 (b : Fin 8) (k : Fin 2) (t : Fin 9) (co ci : Fin 96) :
    (iblk m hO c 2 (pt b k) : Vec Ideal S1x9x96x96 .bf16) (ix4 0 t co ci) = (V m c main_v9 : FVec Ideal S8x9x96x96 .bf16) (ix4 (ex m hT b k) t co ci) := by
  show (V m c main_v9 : FVec Ideal S8x9x96x96 .bf16) ((((cfgM m hO).win 2).blk (pt b k)).view.emb (ix4 0 t co ci)) = _
  congr 1
  funext a
  refine Fin.ext ?_
  match a with
  | ⟨0, _⟩ =>
    show (Pipeline.Prefetch.Contents.at (tbl m : pre0.Contents (Elt Ideal)) 0 _ _ : BitVec 32).toNat * 1 + 1 * 0 = (argTi m 0 (ix3 b 0 k)).toNat
    rw [word_at m b k _ _ (off1 b k)]; omega
  | ⟨1, _⟩ => show 0 * 9 + 1 * t.val = t.val; omega
  | ⟨2, _⟩ => show 0 * 96 + 1 * co.val = co.val; omega
  | ⟨3, _⟩ => show 0 * 96 + 1 * ci.val = ci.val; omega

theorem iblk3 (b : Fin 8) (k : Fin 2) (co : Fin 96) (j : Fin 8) :
    (iblk m hO c 3 (pt b k) : Vec Ideal S1x96x8 .f32) (ix3 0 co j) = (V m c main_v18 : FVec Ideal S8x96x8 .f32) (ix3 (ex m hT b k) co j) := by
  show (V m c main_v18 : FVec Ideal S8x96x8 .f32) ((((cfgM m hO).win 3).blk (pt b k)).view.emb (ix3 0 co j)) = _
  congr 1
  funext a
  refine Fin.ext ?_
  match a with
  | ⟨0, _⟩ =>
    show (Pipeline.Prefetch.Contents.at (tbl m : pre0.Contents (Elt Ideal)) 0 _ _ : BitVec 32).toNat * 1 + 1 * 0 = (argTi m 0 (ix3 b 0 k)).toNat
    rw [word_at m b k _ _ (off1 b k)]; omega
  | ⟨1, _⟩ => show 0 * 96 + 1 * co.val = co.val; omega
  | ⟨2, _⟩ => show 0 * 8 + 1 * j.val = j.val; omega

/-- The output array after the launch, from what the points of second coordinate 1 leave. -/
theorem arr6 (G : FVec Ideal S8x96x3712 .f32)
    (hG : ∀ (b : Fin 8) (co : Fin 96) (f : Fin 3712), second m hO c (pt b 1) (ix3 0 co f) = G (ix3 b co f)) :
    (dats m hO 0 c).arrAt 6 (cfgM m hO).N = G := by
  refine (dats m hO 0 c).arrAt_eq_of_emb 6 G (fun t hf y => ?_) (fun (i : S8x96x3712.Idx) => ?_)
  · have h1 : t.val % 2 = 1 := (flush0_6 (adm m hO) t).mp hf
    have hN : t.val < 16 := t.isLt
    obtain ⟨b, hb⟩ : ∃ b : Fin 8, t = pt b 1 := ⟨⟨t.val / 2, by omega⟩, Fin.ext (by show t.val = 2 * (t.val / 2) + 1; omega)⟩
    subst hb
    have hy : ∀ y : S1x96x3712.Idx, ∃ (co : Fin 96) (f : Fin 3712), y = ix3 0 co f := by
      intro y
      refine ⟨y 1, y 2, ?_⟩
      funext a
      match a with
      | ⟨0, _⟩ => exact Subsingleton.elim (α := Fin 1) _ _
      | ⟨1, _⟩ => rfl
      | ⟨2, _⟩ => rfl
    obtain ⟨co, f, rfl⟩ := hy y
    have e := congrFun ((after0_6 m hO c (pt b 1)).trans (if_neg (by omega))) (ix3 0 co f)
    refine Eq.trans ?_ ((hG b co f).trans (congrArg G ?_))
    · exact e
    · funext a
      refine Fin.ext ?_
      match a with
      | ⟨0, _⟩ => show b.val = cc0_transform_6 (grid0.coords (pt b 1)) 0 * 1 + 1 * 0; rw [tr6]; show _ = b.val * 1 + 1 * 0; omega
      | ⟨1, _⟩ => show co.val = cc0_transform_6 (grid0.coords (pt b 1)) 1 * 96 + 1 * co.val; rw [tr6]; show _ = 0 * 96 + 1 * co.val; omega
      | ⟨2, _⟩ => show f.val = cc0_transform_6 (grid0.coords (pt b 1)) 2 * 3712 + 1 * f.val; rw [tr6]; show _ = 0 * 3712 + 1 * f.val; omega
  · obtain ⟨b, hb⟩ : ∃ b : Fin 8, b = i 0 := ⟨i 0, rfl⟩
    have hb' : b.val = (i 0).val := congrArg Fin.val hb
    refine ⟨pt b 1, (flush0_6 (adm m hO) _).mpr (by show (2 * b.val + 1) % 2 = 1; omega), ?_⟩
    refine (((cfgM m hO).win 6).emb_mem_blk_iff (pt b 1) i).mpr fun a => ?_
    match a with
    | ⟨0, _⟩ =>
      show cc0_transform_6 (grid0.coords (pt b 1)) 0 * 1 ≤ (i 0).val ∧ (i 0).val < cc0_transform_6 (grid0.coords (pt b 1)) 0 * 1 + 1
      rw [tr6]; show b.val * 1 ≤ (i 0).val ∧ (i 0).val < b.val * 1 + 1; omega
    | ⟨1, _⟩ =>
      show cc0_transform_6 (grid0.coords (pt b 1)) 1 * 96 ≤ (i 1).val ∧ (i 1).val < cc0_transform_6 (grid0.coords (pt b 1)) 1 * 96 + 96
      rw [tr6]; show 0 * 96 ≤ (i 1).val ∧ (i 1).val < 0 * 96 + 96; have : (i 1).val < 96 := (i 1).isLt; omega
    | ⟨2, _⟩ =>
      show cc0_transform_6 (grid0.coords (pt b 1)) 2 * 3712 ≤ (i 2).val ∧ (i 2).val < cc0_transform_6 (grid0.coords (pt b 1)) 2 * 3712 + 3712
      rw [tr6]; show 0 * 3712 ≤ (i 2).val ∧ (i 2).val < 0 * 3712 + 3712; have : (i 2).val < 3712 := (i 2).isLt; omega

end Cert.KernelIdeal.Gen

end
-- ==== Proof.RefW.lean ====
/-
  The mixing weights of the expert call's reference at an index.
-/
module

public import proofs.«01_k».proof.Proof.RefRead
public import Idealize.ShloMosaic.Lib.Routing.OpsPair
public import Idealize.ShloMosaic.Lib.Routing.OpsSet

@[expose] public section

set_option maxRecDepth 16384

noncomputable section

namespace Cert.RefRead

open Cert.Alg Cert.RefRun Cert.ReferenceIdeal Cert.ReferenceIdeal.Gen Idealize.ShloMosaic

theorem toInt_small (w : BitVec 32) (h : w.toNat < 8) : w.toInt = (w.toNat : ℤ) := by
  rw [BitVec.toInt_eq_toNat_cond, if_pos (by omega)]

theorem w_apply (ti : IVec S8x1x2 32) (tw : FVec Ideal S8x1x2 .f32) (h : ∀ i, (ti i).toNat < 8) (b : Fin 8)
    (hne : (ti (ix3 b 0 0)).toNat ≠ (ti (ix3 b 0 1)).toNat) (e : Fin 8) :
    refW ti tw (ix2 b e)
      = if e.val = (ti (ix3 b 0 1)).toNat then tw (ix3 b 0 1) else if e.val = (ti (ix3 b 0 0)).toNat then tw (ix3 b 0 0) else 0 := by
  have hl : ∀ (a : Fin 8) (k : Fin 2), scatter_S8x8_S8x2x2_S8x2_n_01_01_2.resultIdx? (ix2 a k) (refIdx ti) = some (ix2 b e)
      ↔ a = b ∧ (ti (ix3 b 0 k)).toNat = e.val := by
    intro a k
    refine (Routing.scatter_lands2 scatter_S8x8_S8x2x2_S8x2_n_01_01_2 rfl rfl rfl (refIdx ti) a k b e).trans ?_
    have e0 := (idx_apply ti h a k).1
    have e1 := (idx_apply ti h a k).2
    rw [show refIdx ti (ValueIdx.ix3 a k 0) = _ from e0, show refIdx ti (ValueIdx.ix3 a k 1) = _ from e1, toInt_small _ (h _),
      toInt_small _ (by simp; omega)]
    simp only [BitVec.toNat_ofNat]
    constructor
    · rintro ⟨h1, h2⟩
      have : a = b := Fin.ext (by omega)
      subst this
      exact ⟨rfl, by omega⟩
    · rintro ⟨rfl, h2⟩
      exact ⟨by omega, by omega⟩
  have hu : ∀ (a : Fin 8) (k : Fin 2), (shapeCast S8x2 tw shapeCasts_S8x1x2_S8x2 : FVec Ideal S8x2 .f32) (ix2 a k) = tw (ix3 a 0 k) := by
    intro a k
    pointwise []
  have hz : (broadcastInDim S8x8 ![] bcast_S_S8x8 (constant S_ .f32 0x00000000#32) : FVec Ideal S8x8 .f32) (ix2 b e) = 0 := by
    pointwise []
  unfold refW
  have hk : ∀ k : S8x2.Idx, ∃ (a : Fin 8) (j : Fin 2), k = ix2 a j := fun k => ⟨k 0, k 1, ValueIdx.eq_ix2 k⟩
  by_cases h1 : e.val = (ti (ix3 b 0 1)).toNat
  · rw [if_pos h1]
    refine Routing.scatter_set_hit _ _ _ _ _ _ (fun k hq => ?_) (ix2 b 1) ((hl b 1).mpr ⟨rfl, h1.symm⟩)
    obtain ⟨a, j, rfl⟩ := hk k
    obtain ⟨rfl, hj⟩ := (hl a j).mp hq
    rw [hu]
    obtain rfl | rfl : j = 0 ∨ j = 1 := by omega
    · exact absurd (hj.trans h1) hne
    · rfl
  · rw [if_neg h1]
    by_cases h0 : e.val = (ti (ix3 b 0 0)).toNat
    · rw [if_pos h0]
      refine Routing.scatter_set_hit _ _ _ _ _ _ (fun k hq => ?_) (ix2 b 0) ((hl b 0).mpr ⟨rfl, h0.symm⟩)
      obtain ⟨a, j, rfl⟩ := hk k
      obtain ⟨rfl, hj⟩ := (hl a j).mp hq
      rw [hu]
      obtain rfl | rfl : j = 0 ∨ j = 1 := by omega
      · rfl
      · exact absurd hj.symm h1
    · rw [if_neg h0]
      refine (Routing.scatter_set_miss _ _ _ _ _ fun k hq => ?_).trans hz
      obtain ⟨a, j, rfl⟩ := hk k
      obtain ⟨rfl, hj⟩ := (hl a j).mp hq
      obtain rfl | rfl : j = 0 ∨ j = 1 := by omega
      · exact h0 hj.symm
      · exact h1 hj.symm

end Cert.RefRead

end
-- ==== Proof.RefVal.lean ====
/-
  The expert call's reference at an index.
-/
module

public import proofs.«01_k».proof.Proof.RefW

@[expose] public section

set_option maxRecDepth 16384

noncomputable section

namespace Cert.RefRead

open Cert.Alg Cert.RefRun Cert.ReferenceIdeal Cert.ReferenceIdeal.Gen Idealize.ShloMosaic

variable (x : FVec Ideal S8x96x56x56 .f32) (w1 : FVec Ideal S8x96x96x3x3 .f32) (g1 b1 m1 v1 : FVec Ideal S8x96 .f32) (w2 : FVec Ideal S8x96x96x3x3 .f32)
  (g2 b2 m2 v2 : FVec Ideal S8x96 .f32)

/-- A batch normalisation of one value. -/
def bnAt (g b' m v : FVec Ideal S8x96 .f32) (e : Fin 8) (c : Fin 96) (a : EReal) : EReal :=
  Ideal.div (a - m (ix2 e c)) (Ideal.sqrt (v (ix2 e c) + Ideal.ofBits .f32 0x3727C5AC#32)) * g (ix2 e c) + b' (ix2 e c)

/-- The hidden layer of expert `e` on image `b`. -/
def hid (e b : Fin 8) (k : Fin 96) (y z : Fin 56) : EReal :=
  max (bnAt g1 b1 m1 v1 e k (conv w1 e (fun k => bord fun y z => x (ix4 b k y z)) k y z)) 0

/-- Expert `e` on image `b`. -/
def out (e b : Fin 8) (k : Fin 96) (y z : Fin 56) : EReal :=
  max (bnAt g2 b2 m2 v2 e k (conv w2 e (fun k => bord (hid x w1 g1 b1 m1 v1 e b k)) k y z) + x (ix4 b k y z)) 0

theorem hid_apply (e b : Fin 8) (k : Fin 96) (y z : Fin 56) :
    refRelu (refBn (refConv (refPad (refXe x)) w1) g1 b1 m1 v1) (ix5 e b k y z) = hid x w1 g1 b1 m1 v1 e b k y z := by
  rw [relu_apply, bn_apply, conv_apply]
  simp only [pad_apply, xe_apply]
  rfl

theorem out_apply (e b : Fin 8) (k : Fin 96) (y z : Fin 56) :
    refRelu (addf (refBn (refConv (refPad (refRelu (refBn (refConv (refPad (refXe x)) w1) g1 b1 m1 v1))) w2) g2 b2 m2 v2) (refXe x)) (ix5 e b k y z)
      = out x w1 g1 b1 m1 v1 w2 g2 b2 m2 v2 e b k y z := by
  rw [relu_apply, addf_apply, Ideal.addf_def, bn_apply, conv_apply, xe_apply]
  simp only [pad_apply, hid_apply]
  rfl

theorem all_apply (ti : IVec S8x1x2 32) (tw : FVec Ideal S8x1x2 .f32) (h : ∀ i, (ti i).toNat < 8) (b : Fin 8)
    (hne : (ti (ix3 b 0 0)).toNat ≠ (ti (ix3 b 0 1)).toNat) (k : Fin 96) (y z : Fin 56) :
    refAll x w1 g1 b1 m1 v1 w2 g2 b2 m2 v2 ti tw (ix4 b k y z)
      = out x w1 g1 b1 m1 v1 w2 g2 b2 m2 v2 ⟨(ti (ix3 b 0 0)).toNat, h _⟩ b k y z * tw (ix3 b 0 0)
        + out x w1 g1 b1 m1 v1 w2 g2 b2 m2 v2 ⟨(ti (ix3 b 0 1)).toNat, h _⟩ b k y z * tw (ix3 b 0 1) := by
  unfold refAll
  rw [mix_apply]
  simp only [out_apply, w_apply ti tw h b hne]
  refine Eq.trans ?_ (mix (fun e => out x w1 g1 b1 m1 v1 w2 g2 b2 m2 v2 e b k y z) ⟨(ti (ix3 b 0 0)).toNat, h _⟩ ⟨(ti (ix3 b 0 1)).toNat, h _⟩
    (fun e => hne (Fin.mk.inj e)) (tw (ix3 b 0 0)) (tw (ix3 b 0 1)))
  simp only [Fin.ext_iff]

end Cert.RefRead

end
-- ==== Proof.KValue.lean ====
/-
  What the expert call leaves in its result, over the extended reals: the two chosen experts' outputs, weighted and added.
-/
module

public import proofs.«01_k».proof.Proof.KRead
public import proofs.«01_k».proof.Proof.KHost
public import proofs.«01_k».proof.Proof.KBlocks
public import proofs.«01_k».proof.Proof.RefVal

@[expose] public section

set_option maxRecDepth 16384

noncomputable section

namespace Cert.KernelIdeal.Gen

open Idealize.ShloMosaic Idealize.ShloMosaic.TcCoe Idealize.ShloMosaic.Tactic

/-- The tail of the program. -/
def tail (G : FVec Ideal S8x96x3712 .f32) : FVec Ideal S8x96x56x56 .f32 :=
  extractStridedSlice S8x96x56x56 ![0, 0, 1, 1] (shapeCast S8x96x58x64 G shapeCasts_S8x96x3712_S8x96x58x64) slices_S8x96x58x64_S8x96x56x56_0_0_1_1

/-- The flat position of a pixel. -/
def flat (y z : Fin 56) : Fin 3712 := ⟨64 * (1 + y.val) + (1 + z.val), by omega⟩

theorem tail_apply (G : FVec Ideal S8x96x3712 .f32) (b : Fin 8) (k : Fin 96) (y z : Fin 56) : tail G (ix4 b k y z) = G (ix3 b k (flat y z)) := by
  have e : flat y z = ⟨(1 + y.val) * 64 + (1 + z.val), by omega⟩ := Fin.ext (congrArg (· + (1 + z.val)) (Nat.mul_comm 64 (1 + y.val)))
  rw [e]
  unfold tail
  pointwise []

theorem final_v22 (m : (ℓ : Loc nD τ sig) → Buf (Elt Ideal) ℓ) (hO : Ok m) (c : Dev nD) : final m hO c main_v22 = tail ((dats m hO 0 c).arrAt 6 (cfgM m hO).N) := by
  show StableHlo.after (List.flatten [hostOps1]) (Pipeline.withArrays spec0 c (V0 m c) fun w => (dats m hO 0 c).arrAt w (cfgM m hO).N) (Proc.devRef .tc main_v22) = _
  after_reads_simp
  have e : Pipeline.withArrays spec0 c (V0 m c) (fun w => (dats m hO 0 c).arrAt w (cfgM m hO).N) (Proc.devRef .tc main_v20) = (dats m hO 0 c).arrAt 6 (cfgM m hO).N :=
    Pipeline.withArrays_arr spec0 (by decide) c (V0 m c) (fun w => (dats m hO 0 c).arrAt w (cfgM m hO).N) 6
  rw [e]
  rfl

/-! ## A point's contribution -/

theorem st_flat (t : Fin 9) (y z : Fin 56) : Cert.Alg.st t + (flat y z).val = 128 + (64 * (t.val / 3 + y.val) + (t.val % 3 + z.val)) := by
  unfold Cert.Alg.st flat; show 63 + 64 * (t.val / 3) + t.val % 3 + (64 * (1 + y.val) + (1 + z.val)) = _; omega

/-- A layer's nine products in the flat image are those in the image with its border. -/
theorem conv_flat (w : Vec Ideal S1x9x96x96 .bf16) (W : FVec Ideal S8x96x96x3x3 .f32) (e : Fin 8) (D : Fin 96 → Fin 3968 → EReal) (P : Fin 96 → Fin 58 → Fin 58 → EReal)
    (hw : ∀ (t : Fin 9) (co ci : Fin 96), w (ix4 0 t co ci) = W (ix5 e co ci ⟨t.val / 3, by omega⟩ ⟨t.val % 3, by omega⟩))
    (hD : ∀ (k : Fin 96) (y z : Fin 58) (h : 128 + (64 * y.val + z.val) < 3968), D k ⟨128 + (64 * y.val + z.val), h⟩ = P k y z) (k : Fin 96) (y z : Fin 56) :
    Cert.KRead.conv w D k (flat y z) = Cert.RefRead.conv W e P k y z := by
  unfold Cert.KRead.conv Cert.RefRead.conv
  congr 1
  funext t
  refine Finset.sum_congr rfl fun ci _ => ?_
  rw [hw]
  congr 1
  refine Eq.trans (congrArg (D ci) (Fin.ext (st_flat t y z))) (hD ci ⟨t.val / 3 + y.val, by omega⟩ ⟨t.val % 3 + z.val, by omega⟩ (by
    show 128 + (64 * (t.val / 3 + y.val) + (t.val % 3 + z.val)) < 3968; omega))

theorem inside_iff (y z : Fin 58) : Inside (64 * y.val + z.val) ↔ (1 ≤ y.val ∧ y.val - 1 < 56) ∧ 1 ≤ z.val ∧ z.val - 1 < 56 := by
  unfold Inside; constructor <;> intro h <;> refine ⟨⟨?_, ?_⟩, ?_, ?_⟩ <;> omega

/-- The image with its border, away from the border. -/
theorem bord_inner (P : Fin 56 → Fin 56 → EReal) (y z : Fin 56) : Cert.RefRead.bord P ⟨1 + y.val, by omega⟩ ⟨1 + z.val, by omega⟩ = P y z := by
  unfold Cert.RefRead.bord
  rw [dif_pos ⟨⟨Nat.le_add_right 1 _, by show 1 + y.val - 1 < 56; omega⟩, Nat.le_add_right 1 _, by show 1 + z.val - 1 < 56; omega⟩]
  exact congrArg₂ P (Fin.ext (Nat.add_sub_cancel_left 1 y.val)) (Fin.ext (Nat.add_sub_cancel_left 1 z.val))

/-! ## The body on a point's blocks, by what they hold -/

section blocks

variable (x0 : Vec Ideal S1x96x3968 .bf16) (x1 x2 : Vec Ideal S1x9x96x96 .bf16) (x3 : Vec Ideal S1x96x8 .f32) (x4 : Vec Ideal S1x1x2 .f32) (x5 : Vec Ideal S1x3712 .f32)
  (X : FVec Ideal S8x96x56x56 .f32) (W1 W2 : FVec Ideal S8x96x96x3x3 .f32) (G1 B1 M1 V1 G2 B2 M2 V2 : FVec Ideal S8x96 .f32) (e b : Fin 8)
  (h0 : ∀ (k : Fin 96) (y z : Fin 58) (h : 128 + (64 * y.val + z.val) < 3968), x0 (ix3 0 k ⟨128 + (64 * y.val + z.val), h⟩) = Cert.RefRead.bord (fun y z => X (ix4 b k y z)) y z)
  (h1 : ∀ (t : Fin 9) (co ci : Fin 96), x1 (ix4 0 t co ci) = W1 (ix5 e co ci ⟨t.val / 3, by omega⟩ ⟨t.val % 3, by omega⟩))
  (h2 : ∀ (t : Fin 9) (co ci : Fin 96), x2 (ix4 0 t co ci) = W2 (ix5 e co ci ⟨t.val / 3, by omega⟩ ⟨t.val % 3, by omega⟩))
  (h3 : ∀ k : Fin 96, (x3 (ix3 0 k 0) = G1 (ix2 e k) ∧ x3 (ix3 0 k 1) = B1 (ix2 e k) ∧ x3 (ix3 0 k 2) = M1 (ix2 e k) ∧ x3 (ix3 0 k 3) = V1 (ix2 e k))
    ∧ x3 (ix3 0 k 4) = G2 (ix2 e k) ∧ x3 (ix3 0 k 5) = B2 (ix2 e k) ∧ x3 (ix3 0 k 6) = M2 (ix2 e k) ∧ x3 (ix3 0 k 7) = V2 (ix2 e k))
  (h5 : ∀ f : Fin 3712, x5 (ix2 0 f) = (if Inside f.val then 1 else 0 : EReal))
  (hg1 : ∀ i, ∃ r : ℝ, G1 i = (r : EReal)) (hm1 : ∀ i, ∃ r : ℝ, M1 i = (r : EReal)) (hv1 : ∀ i, 0 < V1 i + Ideal.ofBits .f32 0x3727C5AC#32)
  (hg2 : ∀ i, ∃ r : ℝ, G2 i = (r : EReal)) (hm2 : ∀ i, ∃ r : ℝ, M2 i = (r : EReal)) (hv2 : ∀ i, 0 < V2 i + Ideal.ofBits .f32 0x3727C5AC#32)

include h0 h1 h3 h5 hg1 hm1 hv1 in
theorem hidden_val (k : Fin 96) (y z : Fin 58) (h : 128 + (64 * y.val + z.val) < 3968) :
    Gen.hidden x0 x1 x3 x5 (ix2 k ⟨128 + (64 * y.val + z.val), h⟩) = Cert.RefRead.bord (Cert.RefRead.hid X W1 G1 B1 M1 V1 e b k) y z := by
  have hf : 64 * y.val + z.val < 3712 := by omega
  refine (Cert.KRead.hidden_mid _ _ _ _ k ⟨64 * y.val + z.val, hf⟩ h).trans ?_
  rw [Cert.KRead.layer1_apply, h5]
  unfold Cert.RefRead.bord
  by_cases hi : (1 ≤ y.val ∧ y.val - 1 < 56) ∧ 1 ≤ z.val ∧ z.val - 1 < 56
  · rw [dif_pos hi, if_pos ((inside_iff y z).mpr hi), mul_one]
    have hfl : (⟨64 * y.val + z.val, hf⟩ : Fin 3712) = flat ⟨y.val - 1, hi.1.2⟩ ⟨z.val - 1, hi.2.2⟩ := Fin.ext (by
      show 64 * y.val + z.val = 64 * (1 + (y.val - 1)) + (1 + (z.val - 1)); omega)
    rw [hfl, conv_flat x1 W1 e _ (fun k => Cert.RefRead.bord fun y z => X (ix4 b k y z)) h1 h0]
    obtain ⟨⟨p0, p1, p2, p3⟩, -⟩ := h3 k
    unfold Cert.KRead.shift Cert.KRead.scale Cert.RefRead.hid Cert.RefRead.bnAt
    rw [p0, p1, p2, p3]
    obtain ⟨g, hg⟩ := hg1 (ix2 e k)
    obtain ⟨r, hr⟩ := hm1 (ix2 e k)
    rw [hg, hr, Cert.Alg.bn _ _ g r _ (hv1 _)]
  · rw [dif_neg hi, if_neg (fun h => hi ((inside_iff y z).mp h)), mul_zero]

include h0 h1 h2 h3 h5 hg1 hm1 hv1 hg2 hm2 hv2 in
theorem part_val (word : BitVec 32) (w : EReal) (hs : Scalar.select (Scalar.cmpi CmpIPredicate.eq word 0#32) (x4 (ix3 0 0 0)) (x4 (ix3 0 0 1)) = w)
    (k : Fin 96) (y z : Fin 56) :
    Cert.KRead.part x0 x1 x2 x3 x4 x5 word k (flat y z) = Cert.RefRead.out X W1 G1 B1 M1 V1 W2 G2 B2 M2 V2 e b k y z * w := by
  unfold Cert.KRead.part
  have hh := hidden_val x0 x1 x3 x5 X W1 G1 B1 M1 V1 G2 B2 M2 V2 e b h0 h1 h3 h5 hg1 hm1 hv1
  have hc := conv_flat x2 W2 e (fun k p => Gen.hidden x0 x1 x3 x5 (ix2 k p)) (fun k => Cert.RefRead.bord (Cert.RefRead.hid X W1 G1 B1 M1 V1 e b k)) h2 hh k y z
  rw [hs, hc]
  have hx : x0 (ix3 0 k ⟨128 + (flat y z).val, by have := (flat y z).isLt; omega⟩) = X (ix4 b k y z) := by
    exact (h0 k ⟨1 + y.val, by omega⟩ ⟨1 + z.val, by omega⟩ (by show 128 + (64 * (1 + y.val) + (1 + z.val)) < 3968; omega)).trans
      (bord_inner (fun y z => X (ix4 b k y z)) y z)
  refine congrArg (· * w) ?_
  unfold Cert.RefRead.out
  refine congrArg (fun u => max u 0) (congrArg₂ (· + ·) ?_ hx)
  obtain ⟨-, p4, p5, p6, p7⟩ := h3 k
  unfold Cert.KRead.shift Cert.KRead.scale Cert.RefRead.bnAt
  rw [p4, p5, p6, p7]
  obtain ⟨g, hg⟩ := hg2 (ix2 e k)
  obtain ⟨r, hr⟩ := hm2 (ix2 e k)
  rw [hg, hr, Cert.Alg.bn _ _ g r _ (hv2 _)]

end blocks

variable (m : (ℓ : Loc nD τ sig) → Buf (Elt Ideal) ℓ) (hO : Ok m) (c : Dev nD) (hT : ∀ i : S8x1x2.Idx, (argTi m 0 i).toNat < 8)

variable (hg1 : ∀ i, ∃ r : ℝ, aG1 m c i = (r : EReal)) (hm1 : ∀ i, ∃ r : ℝ, aM1 m c i = (r : EReal)) (hv1 : ∀ i, 0 < aV1 m c i + Ideal.ofBits .f32 0x3727C5AC#32)
  (hg2 : ∀ i, ∃ r : ℝ, aG2 m c i = (r : EReal)) (hm2 : ∀ i, ∃ r : ℝ, aM2 m c i = (r : EReal)) (hv2 : ∀ i, 0 < aV2 m c i + Ideal.ofBits .f32 0x3727C5AC#32)

include hg1 hm1 hv1 hg2 hm2 hv2 in
theorem part_point (b : Fin 8) (j : Fin 2) (k : Fin 96) (y z : Fin 56) :
    Cert.KRead.part (iblk m hO c 0 (pt b j)) (iblk m hO c 1 (pt b j)) (iblk m hO c 2 (pt b j)) (iblk m hO c 3 (pt b j)) (iblk m hO c 4 (pt b j)) (iblk m hO c 5 (pt b j))
        (word2 (pt b j)) k (flat y z)
      = Cert.RefRead.out (aX m c) (aW1 m c) (aG1 m c) (aB1 m c) (aM1 m c) (aV1 m c) (aW2 m c) (aG2 m c) (aB2 m c) (aM2 m c) (aV2 m c) (ex m hT b j) b k y z
        * aTw m c (ix3 b 0 j) := by
  refine part_val _ _ _ _ _ _ (aX m c) (aW1 m c) (aW2 m c) (aG1 m c) (aB1 m c) (aM1 m c) (aV1 m c) (aG2 m c) (aB2 m c) (aM2 m c) (aV2 m c) (ex m hT b j) b
    ?_ ?_ ?_ ?_ ?_ hg1 hm1 hv1 hg2 hm2 hv2 _ _ ?_ k y z
  · intro k y z h
    exact (iblk0 m hO c b j k _).trans ((congrFun (V_v3 m c) _).trans (xLay_apply (aX m c) b k y z h))
  · intro t co ci
    exact (iblk1 m hO c hT b j t co ci).trans ((congrFun (V_v6 m c) _).trans (wLay_apply _ _ _ _ _))
  · intro t co ci
    exact (iblk2 m hO c hT b j t co ci).trans ((congrFun (V_v9 m c) _).trans (wLay_apply _ _ _ _ _))
  · intro k
    obtain ⟨p0, p1, p2, p3, p4, p5, p6, p7⟩ := pLay_apply (aG1 m c) (aB1 m c) (aM1 m c) (aV1 m c) (aG2 m c) (aB2 m c) (aM2 m c) (aV2 m c) (ex m hT b j) k
    have q : ∀ i : Fin 8, (iblk m hO c 3 (pt b j) : Vec Ideal S1x96x8 .f32) (ix3 0 k i)
        = pLay (aG1 m c) (aB1 m c) (aM1 m c) (aV1 m c) (aG2 m c) (aB2 m c) (aM2 m c) (aV2 m c) (ix3 (ex m hT b j) k i) :=
      fun i => (iblk3 m hO c hT b j k i).trans (congrFun (V_v18 m c) _)
    exact ⟨⟨(q 0).trans p0, (q 1).trans p1, (q 2).trans p2, (q 3).trans p3⟩, (q 4).trans p4, (q 5).trans p5, (q 6).trans p6, (q 7).trans p7⟩
  · intro f
    exact (iblk5 m hO c b j f).trans (cst_apply m c f)
  · have w : ∀ i : Fin 2, (iblk m hO c 4 (pt b j) : Vec Ideal S1x1x2 .f32) (ix3 0 0 i) = aTw m c (ix3 b 0 i) :=
      fun i => (iblk4 m hO c b j i).trans (congrFun (V_main_arg12 m c) _)
    refine (congrArg₂ (Scalar.select _) (w 0) (w 1)).trans ?_
    rw [word_pt]
    obtain rfl | rfl : j = 0 ∨ j = 1 := by omega
    · rfl
    · rfl

theorem prev_pt (b : Fin 8) : prev (pt b 1) = pt b 0 := Fin.ext (by show 2 * b.val + 1 - 1 = 2 * b.val + 0; omega)

include hT hg1 hm1 hv1 hg2 hm2 hv2 in
theorem second_val (b : Fin 8) (k : Fin 96) (y z : Fin 56) :
    (second m hO c (pt b 1) : Vec Ideal S1x96x3712 .f32) (ix3 0 k (flat y z))
      = Cert.RefRead.out (aX m c) (aW1 m c) (aG1 m c) (aB1 m c) (aM1 m c) (aV1 m c) (aW2 m c) (aG2 m c) (aB2 m c) (aM2 m c) (aV2 m c) (ex m hT b 0) b k y z
          * aTw m c (ix3 b 0 0)
        + Cert.RefRead.out (aX m c) (aW1 m c) (aG1 m c) (aB1 m c) (aM1 m c) (aV1 m c) (aW2 m c) (aG2 m c) (aB2 m c) (aM2 m c) (aV2 m c) (ex m hT b 1) b k y z
          * aTw m c (ix3 b 0 1) := by
  refine (Cert.KRead.outSecond_apply _ _ _ _ _ _ _ k (flat y z) _).trans ?_
  refine congrArg₂ (· + ·) ?_ (part_point m hO c hT hg1 hm1 hv1 hg2 hm2 hv2 b 1 k y z)
  rw [prev_pt]
  exact (Cert.KRead.outFirst_apply _ _ _ _ _ _ _ k (flat y z)).trans (part_point m hO c hT hg1 hm1 hv1 hg2 hm2 hv2 b 0 k y z)

include hT hg1 hm1 hv1 hg2 hm2 hv2 in
/-- The result of the program is that of the reference. -/
theorem value (hne : ∀ b : Fin 8, (argTi m 0 (ix3 b 0 0)).toNat ≠ (argTi m 0 (ix3 b 0 1)).toNat) :
    final m hO c main_v22 = Cert.RefRun.refAll (F := Ideal) (aX m c) (aW1 m c) (aG1 m c) (aB1 m c) (aM1 m c) (aV1 m c) (aW2 m c) (aG2 m c) (aB2 m c) (aM2 m c)
      (aV2 m c) (argTi m 0) (aTw m c) := by
  refine (final_v22 m hO c).trans ?_
  refine (congrArg tail (arr6 m hO c (fun i => (second m hO c (pt (i 0) 1) : Vec Ideal S1x96x3712 .f32) (ix3 0 (i 1) (i 2))) (fun _ _ _ => rfl))).trans ?_
  have key : ∀ i : S8x96x56x56.Idx, ∃ (b : Fin 8) (k : Fin 96) (y z : Fin 56), i = ix4 b k y z := fun i => ⟨i 0, i 1, i 2, i 3, ValueIdx.eq_ix4 i⟩
  funext i
  obtain ⟨b, k, y, z, rfl⟩ := key i
  refine (tail_apply _ b k y z).trans ((second_val m hO c hT hg1 hm1 hv1 hg2 hm2 hv2 b k y z).trans ?_)
  exact (Cert.RefRead.all_apply _ _ _ _ _ _ _ _ _ _ _ _ _ hT b (hne b) k y z).symm

end Cert.KernelIdeal.Gen

end
-- ==== Proof.GFinite.lean ====
/-
  The gating call's precondition, read entry by entry.
-/
module

public import proofs.«01_k».proof.Pre_finite
public import proofs.«01_k».proof.Proof.Routed

@[expose] public section

noncomputable section

namespace Cert.Pre_finite

open Cert.Pre_routed Idealize.ShloMosaic

instance facts : Facts where
  bcast_S_S8x96x56x56 := by decide
  reducesTo_S8x96x56x56_S_d0_1_2_3 := by decide
  h_S_ := by decide
  bcast_S_S8x96 := by decide
  reducesTo_S8x96_S_d0_1 := by decide
  bcast_S_S8 := by decide
  reducesTo_S8_S_d0 := by decide

theorem subsingleton_S_ : Subsingleton S_.Idx := ⟨fun a b => funext fun i => i.elim0⟩

theorem parts (x : FVec Ideal S8x96x56x56 .f32) (wg : FVec Ideal S8x96 .f32) (bg : FVec Ideal S8 .f32)
    (h : fn (F := Ideal) x wg bg = fun _ => 1#1) :
    (∀ i : S8x96x56x56.Idx, ∃ r : ℝ, x i = (r : EReal)) ∧ (∀ i : S8x96.Idx, ∃ r : ℝ, wg i = (r : EReal))
      ∧ ∀ i : S8.Idx, ∃ r : ℝ, bg i = (r : EReal) := by
  haveI := subsingleton_S_
  have e := congrFun h ix0
  obtain ⟨e, q3⟩ := and_one _ _ e
  obtain ⟨q1, q2⟩ := and_one _ _ e
  exact ⟨fun i => real_of_lt _ (Host.reduce_andi_all _ _ _ _ ix0 q1 i), fun i => real_of_lt _ (Host.reduce_andi_all _ _ _ _ ix0 q2 i),
    fun i => real_of_lt _ (Host.reduce_andi_all _ _ _ _ ix0 q3 i)⟩

end Cert.Pre_finite

end
-- ==== Proof.GTop.lean ====
/-
  The two greatest of eight values, the lower position first among equals, and the folds that find them.
-/
module

public import Idealize.ShloMosaic.Lib.PlanTiles.StableSort
public import Idealize.ShloMosaic.Lib.Pointwise
public import Idealize.ShloMosaic.Lib.IdealHost

@[expose] public section

noncomputable section

namespace Cert.Gate

open Idealize.ShloMosaic

/-- How many values lie below that of `k`. -/
def rank (L : Fin 8 → EReal) (k : Fin 8) : ℕ := (Finset.univ.filter fun j => L j < L k).card

theorem rank_lt (L : Fin 8 → EReal) (a b : Fin 8) : rank L b < rank L a ↔ L b < L a := by
  constructor
  · intro h
    by_contra hn
    refine absurd h (not_lt.mpr (Finset.card_le_card ?_ : rank L a ≤ rank L b))
    intro j hj
    rw [Finset.mem_filter] at hj ⊢
    exact ⟨hj.1, lt_of_lt_of_le hj.2 (not_lt.mp hn)⟩
  · intro h
    refine Finset.card_lt_card (Finset.ssubset_iff_of_subset ?_ |>.mpr ⟨b, ?_, ?_⟩)
    · intro j hj
      rw [Finset.mem_filter] at hj ⊢
      exact ⟨hj.1, hj.2.trans h⟩
    · exact Finset.mem_filter.mpr ⟨Finset.mem_univ _, h⟩
    · intro hb
      exact absurd (Finset.mem_filter.mp hb).2 (lt_irrefl _)

/-- The positions by descending value. -/
def ord (L : Fin 8 → EReal) : Fin 8 → Fin 8 := sortedFrom fun a b => decide (L b < L a)

theorem ord_lt (L : Fin 8 → EReal) (i j : Fin 8) (hij : i < j) :
    L (ord L j) < L (ord L i) ∨ (L (ord L j) = L (ord L i) ∧ ord L i < ord L j) := by
  have hb : (fun a b : Fin 8 => decide (L b < L a)) = fun a b => decide (rank L b < rank L a) := by
    funext a b
    exact decide_eq_decide.mpr (rank_lt L a b).symm
  have hp := List.pairwise_iff_get.mp (PlanTiles.pairwise_stableSort_lex (rank L) (· < ·) (List.finRange 8) (List.pairwise_lt_finRange 8))
  have key : PlanTiles.Lex (rank L) (· < ·) (ord L i) (ord L j) := by
    unfold ord
    rw [hb]
    unfold sortedFrom
    exact hp (i.cast (length_sortPositions 8 _).symm) (j.cast (length_sortPositions 8 _).symm) hij
  rcases key with h | ⟨h, h'⟩
  · exact Or.inl ((rank_lt L _ _).mp h)
  · refine Or.inr ⟨le_antisymm (not_lt.mp fun q => ?_) (not_lt.mp fun q => ?_), h'⟩
    · have := (rank_lt L _ _).mpr q; omega
    · have := (rank_lt L _ _).mpr q; omega

theorem top1 (L : Fin 8 → EReal) (j : Fin 8) (h : j ≠ ord L 0) : L j < L (ord L 0) ∨ (L j = L (ord L 0) ∧ ord L 0 < j) := by
  obtain ⟨i, rfl⟩ : ∃ i, ord L i = j := sortedFrom_surjective _ j
  exact ord_lt L 0 i (Fin.pos_iff_ne_zero.mpr fun e => h (e ▸ rfl))

theorem top2 (L : Fin 8 → EReal) (j : Fin 8) (h : j ≠ ord L 0) (h' : j ≠ ord L 1) :
    L j < L (ord L 1) ∨ (L j = L (ord L 1) ∧ ord L 1 < j) := by
  obtain ⟨i, rfl⟩ : ∃ i, ord L i = j := sortedFrom_surjective _ j
  have h0 : i ≠ 0 := fun e => h (e ▸ rfl)
  have h1 : i ≠ 1 := fun e => h' (e ▸ rfl)
  refine ord_lt L 1 i ?_
  clear h h'
  revert h0 h1
  revert i
  decide

theorem ord_ne (L : Fin 8 → EReal) : ord L 1 ≠ ord L 0 := fun e =>
  absurd (sortedFrom_injective (fun a b => decide (L b < L a)) e) (by decide)

/-- The greatest value, as a fold finds it. -/
theorem fold_max (f : Fin 8 → EReal) (a : Fin 8) (h : ∀ j, f j ≤ f a) : (Finset.univ : Finset (Fin 8)).fold max ⊥ f = f a :=
  le_antisymm ((Finset.fold_max_le _).mpr ⟨bot_le, fun j _ => h j⟩) ((Finset.le_fold_max _).mpr (Or.inr ⟨a, Finset.mem_univ _, le_rfl⟩))

theorem minsi_small (x y : BitVec 32) (hx : x.toNat < 2 ^ 31) (hy : y.toNat < 2 ^ 31) :
    IntOp.minsi x y = if x.toNat ≤ y.toNat then x else y := by
  have e : ∀ w : BitVec 32, w.toNat < 2 ^ 31 → w.toInt = (w.toNat : ℤ) := fun w h => by
    rw [BitVec.toInt_eq_toNat_cond, if_pos (by omega)]
  simp only [IntOp.minsi, BitVec.sle, BitVec.slt, e x hx, e y hy, decide_eq_true_eq, Nat.cast_le, Nat.cast_lt]
  first
    | done
    | (split <;> split <;> first | rfl | omega | (apply BitVec.eq_of_toNat_eq; omega))

/-- The least of small words, as a fold finds it. -/
theorem fold_min (f : Fin 8 → BitVec 32) (hf : ∀ j, (f j).toNat < 2 ^ 31) (s : Finset (Fin 8)) :
    (s.fold IntOp.minsi 2147483647#32 f).toNat < 2 ^ 31 ∧ (∀ j ∈ s, (s.fold IntOp.minsi 2147483647#32 f).toNat ≤ (f j).toNat)
      ∧ (s.fold IntOp.minsi 2147483647#32 f = 2147483647#32 ∨ ∃ j ∈ s, s.fold IntOp.minsi 2147483647#32 f = f j) := by
  induction s using Finset.induction_on with
  | empty => simp
  | insert a s ha ih =>
    obtain ⟨h1, h2, h3⟩ := ih
    rw [Finset.fold_insert ha, minsi_small _ _ (hf a) h1]
    generalize s.fold IntOp.minsi 2147483647#32 f = r at h1 h2 h3 ⊢
    have h4 := hf a
    by_cases hc : (f a).toNat ≤ r.toNat
    · rw [if_pos hc]
      refine ⟨h4, fun j hj => ?_, Or.inr ⟨a, Finset.mem_insert_self _ _, rfl⟩⟩
      rcases Finset.mem_insert.mp hj with rfl | hj
      · exact le_rfl
      · exact hc.trans (h2 j hj)
    · rw [if_neg hc]
      refine ⟨h1, fun j hj => ?_, ?_⟩
      · rcases Finset.mem_insert.mp hj with rfl | hj
        · omega
        · exact h2 j hj
      · rcases h3 with h | ⟨j, hj, h⟩
        · exact Or.inl h
        · exact Or.inr ⟨j, Finset.mem_insert_of_mem hj, h⟩

/-- The least position that meets a condition. -/
theorem first (p : Fin 8 → Prop) [DecidablePred p] (a : Fin 8) (ha : p a) (h : ∀ j, p j → a ≤ j) :
    (Finset.univ : Finset (Fin 8)).fold IntOp.minsi 2147483647#32 (fun j => if p j then BitVec.ofNat 32 j.val else 8#32) = BitVec.ofNat 32 a.val := by
  have hn : ∀ j : Fin 8, (BitVec.ofNat 32 j.val).toNat = j.val := fun j => by rw [BitVec.toNat_ofNat]; omega
  have hf : ∀ j : Fin 8, ((fun j : Fin 8 => if p j then BitVec.ofNat 32 j.val else 8#32) j).toNat < 2 ^ 31 := by
    intro j
    dsimp only
    split
    · rw [hn]; omega
    · decide
  obtain ⟨-, h2, h3⟩ := fold_min _ hf Finset.univ
  have ea : ((fun j : Fin 8 => if p j then BitVec.ofNat 32 j.val else 8#32) a) = BitVec.ofNat 32 a.val := if_pos ha
  have h2a := h2 a (Finset.mem_univ _)
  have h2b := (h2a.trans_eq (congrArg BitVec.toNat ea)).trans_eq (hn a)
  refine BitVec.eq_of_toNat_eq (le_antisymm (by rw [hn]; exact h2b) ?_)
  rw [hn]
  rcases h3 with e | ⟨j, -, e⟩
  · rw [e]
    have := a.isLt
    show a.val ≤ 2147483647
    omega
  · rw [e]
    split
    · next hp => rw [hn]; exact h j hp
    · have := a.isLt
      show a.val ≤ 8
      omega

end Cert.Gate

end
-- ==== Proof.GRef.lean ====
/-
  The gating call's reference: its stages, named, and read at an index.
-/
module

public import proofs.«01_k».proof.Proof.Gen.GatingReferenceIdeal.Run
public import proofs.«01_k».proof.Proof.GTop
public import Idealize.ShloMosaic.Lib.Pointwise
public import Idealize.ShloMosaic.Lib.IdealHost
public import Idealize.ShloMosaic.Lib.Routing.OpsPair
public import Idealize.ShloMosaic.Lib.Routing.OpsSet

@[expose] public section

set_option maxRecDepth 16384

noncomputable section

namespace Cert.GateRef

open Cert.Gate Cert.GatingReferenceIdeal Cert.GatingReferenceIdeal.Gen Idealize.ShloMosaic Idealize.ShloMosaic.TcCoe Idealize.SL.Sem

/-- The pooled image. -/
def pool (x : FVec Ideal S8x96x56x56 .f32) : FVec Ideal S8x96 .f32 :=
  Host.divf (Host.reduceAdd x (constant S_ .f32 0x00000000#32) reducesTo_S8x96x56x56_S8x96_d2_3 h_S_) (broadcastInDim S8x96 ![] bcast_S_S8x96 (constant S_ .f32 0x45440000#32))

/-- The logits. -/
def logits (x : FVec Ideal S8x96x56x56 .f32) (wg : FVec Ideal S8x96 .f32) (bg : FVec Ideal S8 .f32) : FVec Ideal S8x8 .f32 :=
  addf (Host.dotGeneral dot_S8x96_S96x8_S8x8_1_0_0_1_n_n none (pool x) (transpose S96x8 [1, 0] wg transposes_S8x96_S96x8_1_0)) (broadcastInDim S8x8 ![0, 1] bcast_S1x8_S8x8_0_1 (broadcastInDim S1x8 ![1] bcast_S8_S1x8_1 bg))

/-- The two greatest logits of each row. -/
def vals (L : FVec Ideal S8x8 .f32) : FVec Ideal S8x2 .f32 := (Host.topK S8x2 1 (FloatOps.cmpfTotal .gt) L sliceFits_S8x8_S8x2).1

/-- Their positions. -/
def inds (L : FVec Ideal S8x8 .f32) : IVec S8x2 32 := (Host.topK S8x2 1 (FloatOps.cmpfTotal .gt) L sliceFits_S8x8_S8x2).2

/-- The exponentials of the softmax. -/
def expo (v : FVec Ideal S8x2 .f32) : FVec Ideal S8x2 .f32 :=
  Host.exp (subf v (broadcastInDim S8x2 ![0, 1] bcast_S8x1_S8x2_0_1 (broadcastInDim S8x1 ![0] bcast_S8_S8x1_0 (maximumf (broadcastInDim S8 ![] bcast_S_S8 (constant S_ .f32 0xFF800000#32)) (Host.reduce FloatOps.maximumf v (constant S_ .f32 0xFF800000#32) reducesTo_S8x2_S8_d1 h_S_)))))

/-- Each over their sum. -/
def norm (e : FVec Ideal S8x2 .f32) : FVec Ideal S8x2 .f32 :=
  Host.divf e (broadcastInDim S8x2 ![0, 1] bcast_S8x1_S8x2_0_1 (broadcastInDim S8x1 ![0] bcast_S8_S8x1_0 (Host.reduceAdd e (constant S_ .f32 0x00000000#32) reducesTo_S8x2_S8_d1 h_S_)))

/-- The pairs that the scatter writes at. -/
def pairs (t : IVec S8x2 32) : IVec S8x2x2 32 :=
  concatenate S8x2x2 2 [⟨S8x2x1, (broadcastInDim S8x2x1 ![0, 1] bcast_S8x2_S8x2x1_0_1 (broadcastInDim S8x2 ![0, 1] bcast_S8x1_S8x2_0_1 (select (cmpi .slt (broadcastInDim S8x1 ![0] bcast_S8_S8x1_0 (iotaInDim S8 32 0)) (broadcastInDim S8x1 ![] bcast_S_S8x1 (constantI S_ 32 0#32))) (addi (broadcastInDim S8x1 ![0] bcast_S8_S8x1_0 (iotaInDim S8 32 0)) (broadcastInDim S8x1 ![] bcast_S_S8x1 (constantI S_ 32 8#32))) (broadcastInDim S8x1 ![0] bcast_S8_S8x1_0 (iotaInDim S8 32 0)))))⟩, ⟨S8x2x1, (broadcastInDim S8x2x1 ![0, 1] bcast_S8x2_S8x2x1_0_1 (select (cmpi .slt t (broadcastInDim S8x2 ![] bcast_S_S8x2 (constantI S_ 32 0#32))) (addi t (broadcastInDim S8x2 ![] bcast_S_S8x2 (constantI S_ 32 8#32))) t))⟩] concatenates_S8x2x1_S8x2x1_S8x2x2_d2

/-- The expert weights. -/
def ew (t : IVec S8x2 32) (w : FVec Ideal S8x2 .f32) : FVec Ideal S8x8 .f32 :=
  Host.scatter scatter_S8x8_S8x2x2_S8x2_n_01_01_2 (fun _ b => b) (broadcastInDim S8x8 ![] bcast_S_S8x8 (constant S_ .f32 0x00000000#32)) (pairs t) w

variable (m : (ℓ : Loc nD τ sig) → Buf (Elt Ideal) ℓ) (ρ : Dev nD → PrngReg)

/-- The logits of the launch's arguments. -/
def logM (c : Dev nD) : FVec Ideal S8x8 .f32 :=
  logits (m ((c.tc : Thread nD τ).loc main_arg0)) (m ((c.tc : Thread nD τ).loc main_arg1)) (m ((c.tc : Thread nD τ).loc main_arg2))

theorem run : θ_run defs (onTc (τ := τ) (main (F := Ideal))) ⟨m, fun _ => 0, ρ⟩ fun r => ∀ c : Dev nD,
      r.2.mem ((c.tc : Thread nD τ).loc main_v37) = (shapeCast S8x1x8 (ew (inds (logM m c)) (norm (expo (vals (logM m c))))) shapeCasts_S8x8_S8x1x8 : FVec Ideal S8x1x8 .f32)
      ∧ r.2.mem ((c.tc : Thread nD τ).loc main_v38) = (shapeCast S8x1x2 (inds (logM m c)) shapeCasts_S8x2_S8x1x2 : IVec S8x1x2 32)
      ∧ r.2.mem ((c.tc : Thread nD τ).loc main_v39) = (shapeCast S8x1x2 (norm (expo (vals (logM m c)))) shapeCasts_S8x2_S8x1x2 : FVec Ideal S8x1x2 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2.1.trans rfl, (h c).2.2.2⟩) (Value.run m ρ)

theorem ninf : Ideal.ofBits .f32 0xFF800000#32 = ⊥ := by simp [Ideal.ofBits, Ideal.ieee]

theorem hw : Ideal.ofBits .f32 0x45440000#32 = ((3136 : ℝ) : EReal) := by
  simp only [Ideal.ofBits, Ideal.ieee]
  simp
  rw [← EReal.coe_mul]
  norm_num

theorem before_eq (L : FVec Ideal S8x8 .f32) (b : Fin 8) :
    (fun k k' : Fin 8 => FloatOps.cmpfTotal (F := Ideal) (φ := .f32) .gt (L (ix2 b k)) (L (ix2 b k')) == 1#1)
      = fun k k' => decide (L (ix2 b k') < L (ix2 b k)) := by
  funext k k'
  show (BitVec.ofBool (decide (L (ix2 b k) > L (ix2 b k'))) == 1#1) = _
  by_cases h : L (ix2 b k') < L (ix2 b k)
  · simp [h]
  · simp [h]

theorem along_eq (b k p : Fin 8) : (ix2 b k : S8x8.Idx).along 1 p = ix2 b p := by
  funext a
  match a with
  | ⟨0, _⟩ => rfl
  | ⟨1, _⟩ => rfl

theorem src_eq (L : FVec Ideal S8x8 .f32) (b k : Fin 8) :
    (sortedFrom (fun p q : Fin 8 => FloatOps.cmpfTotal (F := Ideal) (φ := .f32) .gt (L ((ix2 b k : S8x8.Idx).along 1 p)) (L ((ix2 b k : S8x8.Idx).along 1 q)) == 1#1) k : Fin 8)
      = ord (fun e => L (ix2 b e)) k := by
  unfold ord
  rw [← before_eq]
  have e : (fun p q : Fin 8 => FloatOps.cmpfTotal (F := Ideal) (φ := .f32) .gt (L ((ix2 b k : S8x8.Idx).along 1 p)) (L ((ix2 b k : S8x8.Idx).along 1 q)) == 1#1)
      = fun p q => FloatOps.cmpfTotal (F := Ideal) (φ := .f32) .gt (L (ix2 b p)) (L (ix2 b q)) == 1#1 := by
    funext p q
    rw [along_eq, along_eq]
  exact congrFun (congrArg sortedFrom e) k

theorem cut_eq (b : Fin 8) (k : Fin 2) (f : S8x8.Idx → EReal) :
    extractStridedSlice S8x2 (fun _ => 0) f sliceFits_S8x8_S8x2 (ix2 b k) = f (ix2 b ⟨k.val, by omega⟩) := by
  pointwise []

/-- The position along a row. -/
def cnt : IVec S8x8 32 := fun i => if hd : 1 < S8x8.rank then iotaInDim S8x8 32 ⟨1, hd⟩ i else 0#32

theorem vals_apply (L : FVec Ideal S8x8 .f32) (b : Fin 8) (k : Fin 2) :
    vals L (ix2 b k) = L (ix2 b (ord (fun e => L (ix2 b e)) ⟨k.val, by omega⟩)) := by
  refine (cut_eq b k (Host.sort2 S8x8 1 (fun l r => FloatOps.cmpfTotal (F := Ideal) (φ := .f32) .gt l.1 r.1) L (cnt : IVec S8x8 32)).1).trans ?_
  refine congrArg L (Eq.trans ?_ (along_eq b ⟨k.val, by omega⟩ (ord (fun e => L (ix2 b e)) ⟨k.val, by omega⟩)))
  exact congrArg _ (src_eq L b ⟨k.val, by omega⟩)

theorem cutI_eq (b : Fin 8) (k : Fin 2) (f : IVec S8x8 32) :
    extractStridedSlice S8x2 (fun _ => 0) f sliceFits_S8x8_S8x2 (ix2 b k) = f (ix2 b ⟨k.val, by omega⟩) := by
  pointwise []

theorem inds_apply (L : FVec Ideal S8x8 .f32) (b : Fin 8) (k : Fin 2) :
    inds L (ix2 b k) = BitVec.ofNat 32 (ord (fun e => L (ix2 b e)) ⟨k.val, by omega⟩).val := by
  refine (cutI_eq b k (Host.sort2 S8x8 1 (fun l r => FloatOps.cmpfTotal (F := Ideal) (φ := .f32) .gt l.1 r.1) L (cnt : IVec S8x8 32)).2).trans ?_
  have h := src_eq L b ⟨k.val, by omega⟩
  exact congrArg (fun q : Fin 8 => BitVec.ofNat 32 q.val) h

theorem pool_apply (x : FVec Ideal S8x96x56x56 .f32) (b : Fin 8) (c : Fin 96) :
    pool x (ix2 b c) = Ideal.div (∑ y : Fin 56, ∑ z : Fin 56, x (ix4 b c y z)) ((3136 : ℝ) : EReal) := by
  rw [← hw]
  pointwise [pool]

theorem logits_apply (x : FVec Ideal S8x96x56x56 .f32) (wg : FVec Ideal S8x96 .f32) (bg : FVec Ideal S8 .f32) (b e : Fin 8) :
    logits x wg bg (ix2 b e) = (∑ c : Fin 96, pool x (ix2 b c) * wg (ix2 e c)) + bg (ix1 e) := by
  pointwise [logits]

theorem norm_apply (e : FVec Ideal S8x2 .f32) (b : Fin 8) (k : Fin 2) :
    norm e (ix2 b k) = Ideal.div (e (ix2 b k)) (e (ix2 b 0) + e (ix2 b 1)) := by
  refine Eq.trans ?_ (congrArg _ (Fin.sum_univ_two fun j => e (ix2 b j)))
  pointwise [norm]

theorem fold_two (f : Fin 2 → EReal) : (Finset.univ : Finset (Fin 2)).fold max ⊥ f = max (f 0) (f 1) := by
  refine le_antisymm ((Finset.fold_max_le _).mpr ⟨bot_le, fun j _ => ?_⟩) (max_le ?_ ?_)
  · obtain rfl | rfl : j = 0 ∨ j = 1 := by omega
    · exact le_max_left _ _
    · exact le_max_right _ _
  · exact (Finset.le_fold_max _).mpr (Or.inr ⟨0, Finset.mem_univ _, le_rfl⟩)
  · exact (Finset.le_fold_max _).mpr (Or.inr ⟨1, Finset.mem_univ _, le_rfl⟩)

theorem expo_apply (v : FVec Ideal S8x2 .f32) (b : Fin 8) (k : Fin 2) :
    expo v (ix2 b k) = Ideal.exp (v (ix2 b k) - max (v (ix2 b 0)) (v (ix2 b 1))) := by
  have h : max (Ideal.ofBits .f32 0xFF800000#32) ((Finset.univ : Finset (Fin 2)).fold max (Ideal.ofBits .f32 0xFF800000#32) fun j => v (ix2 b j))
      = max (v (ix2 b 0)) (v (ix2 b 1)) := by
    rw [ninf, fold_two]
    exact max_eq_right bot_le
  rw [← h]
  pointwise [expo]

theorem pairs_apply (t : IVec S8x2 32) (h : ∀ i, (t i).toNat < 8) (b : Fin 8) (k : Fin 2) :
    pairs t (ix3 b k 0) = BitVec.ofNat 32 b.val ∧ pairs t (ix3 b k 1) = t (ix2 b k) := by
  have key : ∀ w : BitVec 32, w.toNat < 8 → Scalar.select (IntOp.cmpi CmpIPredicate.slt w 0#32) (IntOp.addi w 8#32) w = w := by
    intro w hw
    have e : w = BitVec.ofNat 32 (⟨w.toNat, hw⟩ : Fin 8).val := by simp
    rw [e]
    generalize (⟨w.toNat, hw⟩ : Fin 8) = n
    revert n
    decide
  constructor
  · pointwise [pairs]
    exact key _ (by revert b; decide)
  · pointwise [pairs]
    exact key _ (h _)

theorem toInt_small (w : BitVec 32) (h : w.toNat < 8) : w.toInt = (w.toNat : ℤ) := by
  rw [BitVec.toInt_eq_toNat_cond, if_pos (by omega)]

theorem ew_apply (t : IVec S8x2 32) (w : FVec Ideal S8x2 .f32) (h : ∀ i, (t i).toNat < 8) (b : Fin 8)
    (hne : (t (ix2 b 0)).toNat ≠ (t (ix2 b 1)).toNat) (e : Fin 8) :
    ew t w (ix2 b e)
      = if e.val = (t (ix2 b 1)).toNat then w (ix2 b 1) else if e.val = (t (ix2 b 0)).toNat then w (ix2 b 0) else 0 := by
  have hl : ∀ (a : Fin 8) (k : Fin 2), scatter_S8x8_S8x2x2_S8x2_n_01_01_2.resultIdx? (ix2 a k) (pairs t) = some (ix2 b e)
      ↔ a = b ∧ (t (ix2 b k)).toNat = e.val := by
    intro a k
    refine (Routing.scatter_lands2 scatter_S8x8_S8x2x2_S8x2_n_01_01_2 rfl rfl rfl (pairs t) a k b e).trans ?_
    have e0 := (pairs_apply t h a k).1
    have e1 := (pairs_apply t h a k).2
    rw [show pairs t (ValueIdx.ix3 a k 0) = _ from e0, show pairs t (ValueIdx.ix3 a k 1) = _ from e1, toInt_small _ (h _),
      toInt_small _ (by simp; omega)]
    simp only [BitVec.toNat_ofNat]
    constructor
    · rintro ⟨h1, h2⟩
      have : a = b := Fin.ext (by omega)
      subst this
      exact ⟨rfl, by omega⟩
    · rintro ⟨rfl, h2⟩
      exact ⟨by omega, by omega⟩
  have hz : (broadcastInDim S8x8 ![] bcast_S_S8x8 (constant S_ .f32 0x00000000#32) : FVec Ideal S8x8 .f32) (ix2 b e) = 0 := by
    pointwise []
  unfold ew
  have hk : ∀ k : S8x2.Idx, ∃ (a : Fin 8) (j : Fin 2), k = ix2 a j := fun k => ⟨k 0, k 1, ValueIdx.eq_ix2 k⟩
  by_cases h1 : e.val = (t (ix2 b 1)).toNat
  · rw [if_pos h1]
    refine Routing.scatter_set_hit _ _ _ _ _ _ (fun k hq => ?_) (ix2 b 1) ((hl b 1).mpr ⟨rfl, h1.symm⟩)
    obtain ⟨a, j, rfl⟩ := hk k
    obtain ⟨rfl, hj⟩ := (hl a j).mp hq
    obtain rfl | rfl : j = 0 ∨ j = 1 := by omega
    · exact absurd (hj.trans h1) hne
    · rfl
  · rw [if_neg h1]
    by_cases h0 : e.val = (t (ix2 b 0)).toNat
    · rw [if_pos h0]
      refine Routing.scatter_set_hit _ _ _ _ _ _ (fun k hq => ?_) (ix2 b 0) ((hl b 0).mpr ⟨rfl, h0.symm⟩)
      obtain ⟨a, j, rfl⟩ := hk k
      obtain ⟨rfl, hj⟩ := (hl a j).mp hq
      obtain rfl | rfl : j = 0 ∨ j = 1 := by omega
      · rfl
      · exact absurd hj.symm h1
    · rw [if_neg h0]
      refine (Routing.scatter_set_miss _ _ _ _ _ fun k hq => ?_).trans hz
      obtain ⟨a, j, rfl⟩ := hk k
      obtain ⟨rfl, hj⟩ := (hl a j).mp hq
      obtain rfl | rfl : j = 0 ∨ j = 1 := by omega
      · exact h0 hj.symm
      · exact h1 hj.symm

end Cert.GateRef

end
-- ==== Proof.GKer.lean ====
/-
  What a grid point of the gating call computes, read at an index.
-/
module

public import proofs.«01_k».proof.Proof.Gen.GatingIdeal.Skeleton
public import proofs.«01_k».proof.Proof.GTop
public import Idealize.ShloMosaic.Lib.Pointwise
public import Idealize.ShloMosaic.Lib.IdealHost

@[expose] public section

set_option maxRecDepth 16384

noncomputable section

namespace Cert.GateKer

open Cert.Gate Cert.GatingIdeal Cert.GatingIdeal.Gen Idealize.ShloMosaic

variable (v0 : FVec Ideal S1x96x3136 .f32) (v6 : FVec Ideal S8x96 .f32) (v8 : FVec Ideal S8x1 .f32)

/-- The logit of expert `e`, as the kernel computes it. -/
theorem p7 (e : Fin 8) : k0_pay7 (F := Ideal) v0 v6 v8 (ix2 e 0)
    = (∑ c : Fin 96, v6 (ix2 e c) * ((∑ p : Fin 3136, v0 (ix3 0 c p)) * ((3136⁻¹ : ℝ) : EReal))) + v8 (ix2 e 0) := by
  have h : (Named.named (F := Ideal) κ "inv_hw" (φ := .f32) 0x39A72F05#32 : EReal) = ((3136⁻¹ : ℝ) : EReal) := rfl
  rw [← h]
  pointwise [k0_pay7]

theorem ninf : Ideal.ofBits .f32 0xFF800000#32 = ⊥ := by simp [Ideal.ofBits, Ideal.ieee]

theorem eq_word (a b : Fin 8) {α : Type} (x y : α) :
    Scalar.select (IntOp.cmpi CmpIPredicate.eq (BitVec.ofNat 32 a.val) (BitVec.ofNat 32 b.val)) x y = if a = b then x else y := by
  have h : IntOp.cmpi CmpIPredicate.eq (BitVec.ofNat 32 a.val) (BitVec.ofNat 32 b.val) = if a = b then 1#1 else 0#1 := by
    revert a b
    decide
  rw [h]
  by_cases e : a = b
  · rw [if_pos e, if_pos e]; rfl
  · rw [if_neg e, if_neg e]; rfl

variable (L : Fin 8 → EReal) (hL : ∀ e : Fin 8, k0_pay7 (F := Ideal) v0 v6 v8 (ix2 e 0) = L e)

include hL

theorem p8 : k0_pay8 (F := Ideal) v0 v6 v8 (ix2 0 0) = L (ord L 0) := by
  have h : k0_pay8 (F := Ideal) v0 v6 v8 (ix2 0 0)
      = (Finset.univ : Finset (Fin 8)).fold max (Ideal.ofBits .f32 0xFF800000#32) fun e => k0_pay7 (F := Ideal) v0 v6 v8 (ix2 e 0) := by
    unfold k0_pay8
    generalize k0_pay7 (F := Ideal) v0 v6 v8 = L
    pointwise []
  rw [h, ninf, funext hL]
  refine fold_max L (ord L 0) fun j => ?_
  by_cases e : j = ord L 0
  · rw [e]
  · rcases top1 L j e with q | q
    · exact q.le
    · exact q.1.le

theorem p9 : k0_pay9 (F := Ideal) v0 v6 v8 (ix2 0 0) = BitVec.ofNat 32 (ord L 0).val := by
  have h : k0_pay9 (F := Ideal) v0 v6 v8 (ix2 0 0)
      = (Finset.univ : Finset (Fin 8)).fold IntOp.minsi 2147483647#32
          fun e => if k0_pay7 (F := Ideal) v0 v6 v8 (ix2 e 0) = k0_pay8 (F := Ideal) v0 v6 v8 (ix2 0 0) then BitVec.ofNat 32 e.val else 8#32 := by
    unfold k0_pay9
    generalize k0_pay7 (F := Ideal) v0 v6 v8 = L
    generalize k0_pay8 (F := Ideal) v0 v6 v8 = M
    pointwise []
  rw [h, p8 v0 v6 v8 L hL]
  simp only [hL]
  refine first (fun j => L j = L (ord L 0)) (ord L 0) rfl fun j hj => ?_
  by_cases e : j = ord L 0
  · rw [e]
  · rcases top1 L j e with q | q
    · exact absurd hj q.ne
    · exact q.2.le

theorem p10 (e : Fin 8) : k0_pay10 (F := Ideal) v0 v6 v8 (ix2 e 0) = if e = ord L 0 then ⊥ else L e := by
  have hm : (Named.named (F := Ideal) κ "mask" (φ := .f32) 0xF149F2CA#32 : EReal) = ⊥ := rfl
  rw [← hL, ← hm, ← eq_word, ← p9 v0 v6 v8 L hL]
  unfold k0_pay10
  generalize k0_pay7 (F := Ideal) v0 v6 v8 = L
  generalize k0_pay9 (F := Ideal) v0 v6 v8 = M
  pointwise []

theorem p11 : k0_pay11 (F := Ideal) v0 v6 v8 (ix2 0 0) = L (ord L 1) := by
  have h : k0_pay11 (F := Ideal) v0 v6 v8 (ix2 0 0)
      = (Finset.univ : Finset (Fin 8)).fold max (Ideal.ofBits .f32 0xFF800000#32) fun e => k0_pay10 (F := Ideal) v0 v6 v8 (ix2 e 0) := by
    unfold k0_pay11
    generalize k0_pay10 (F := Ideal) v0 v6 v8 = L
    pointwise []
  rw [h, ninf, funext (p10 v0 v6 v8 L hL)]
  have e1 : (fun e => if e = ord L 0 then ⊥ else L e) (ord L 1) = L (ord L 1) := if_neg (ord_ne L)
  rw [← e1]
  refine fold_max (fun e => if e = ord L 0 then ⊥ else L e) (ord L 1) fun j => ?_
  refine le_trans ?_ e1.ge
  by_cases e : j = ord L 0
  · rw [if_pos e]; exact bot_le
  · rw [if_neg e]
    by_cases e' : j = ord L 1
    · rw [e']
    · rcases top2 L j e e' with q | q
      · exact q.le
      · exact q.1.le

theorem p12 (hf : L (ord L 1) ≠ ⊥) : k0_pay12 (F := Ideal) v0 v6 v8 (ix2 0 0) = BitVec.ofNat 32 (ord L 1).val := by
  have h : k0_pay12 (F := Ideal) v0 v6 v8 (ix2 0 0)
      = (Finset.univ : Finset (Fin 8)).fold IntOp.minsi 2147483647#32
          fun e => if k0_pay10 (F := Ideal) v0 v6 v8 (ix2 e 0) = k0_pay11 (F := Ideal) v0 v6 v8 (ix2 0 0) then BitVec.ofNat 32 e.val else 8#32 := by
    unfold k0_pay12
    generalize k0_pay10 (F := Ideal) v0 v6 v8 = L
    generalize k0_pay11 (F := Ideal) v0 v6 v8 = M
    pointwise []
  rw [h, p11 v0 v6 v8 L hL]
  simp only [p10 v0 v6 v8 L hL]
  refine first (fun j => (if j = ord L 0 then ⊥ else L j) = L (ord L 1)) (ord L 1) (if_neg (ord_ne L)) fun j hj => ?_
  by_cases e : j = ord L 0
  · rw [if_pos e] at hj
    exact absurd hj.symm hf
  · rw [if_neg e] at hj
    by_cases e' : j = ord L 1
    · rw [e']
    · rcases top2 L j e e' with q | q
      · exact absurd hj q.ne
      · exact q.2.le

theorem p13 : k0_pay13 (F := Ideal) v0 v6 v8 (ix2 0 0) = Ideal.exp (L (ord L 1) - L (ord L 0)) := by
  rw [← p8 v0 v6 v8 L hL, ← p11 v0 v6 v8 L hL]
  unfold k0_pay13
  generalize k0_pay11 (F := Ideal) v0 v6 v8 = M
  generalize k0_pay8 (F := Ideal) v0 v6 v8 = N
  pointwise []

theorem p14 : k0_pay14 (F := Ideal) v0 v6 v8 (ix2 0 0) = Ideal.div 1 (1 + Ideal.exp (L (ord L 1) - L (ord L 0))) := by
  rw [← p13 v0 v6 v8 L hL]
  unfold k0_pay14
  generalize k0_pay13 (F := Ideal) v0 v6 v8 = M
  pointwise []

theorem p15 : k0_pay15 (F := Ideal) v0 v6 v8 (ix2 0 0)
    = Ideal.exp (L (ord L 1) - L (ord L 0)) * Ideal.div 1 (1 + Ideal.exp (L (ord L 1) - L (ord L 0))) := by
  rw [← p14 v0 v6 v8 L hL, ← p13 v0 v6 v8 L hL]
  unfold k0_pay15
  generalize k0_pay13 (F := Ideal) v0 v6 v8 = M
  generalize k0_pay14 (F := Ideal) v0 v6 v8 = N
  pointwise []

theorem p16 : k0_pay16 (F := Ideal) v0 v6 v8 (ix3 0 0 0) = BitVec.ofNat 32 (ord L 0).val := by
  rw [← p9 v0 v6 v8 L hL]
  unfold k0_pay16
  generalize k0_pay9 (F := Ideal) v0 v6 v8 = M
  pointwise []

omit hL

theorem p4 (v31 : IVec S1x1 32) (v37 v38 : FVec Ideal S1x1 .f32) (v39 : IVec S1x1x1 32) (a b : Fin 8)
    (ha : v39 (ix3 0 0 0) = BitVec.ofNat 32 a.val) (hb : v31 (ix2 0 0) = BitVec.ofNat 32 b.val) (e : Fin 8) :
    k0_pay4 (F := Ideal) v31 v37 v38 v39 (ix3 0 0 e) = (if e = a then v37 (ix2 0 0) else 0) + if e = b then v38 (ix2 0 0) else 0 := by
  rw [← eq_word, ← eq_word, ← ha, ← hb]
  pointwise [k0_pay4, k0_pay1, k0_pay2, k0_pay3]

theorem p5 (v31 : IVec S1x1 32) (v39 : IVec S1x1x1 32) :
    k0_pay5 v31 v39 (ix3 0 0 0) = v39 (ix3 0 0 0) ∧ k0_pay5 v31 v39 (ix3 0 0 1) = v31 (ix2 0 0) := by
  constructor
  · pointwise [k0_pay5, k0_pay1, k0_pay2, k0_pay3]
  · pointwise [k0_pay5, k0_pay1, k0_pay2, k0_pay3]
    rfl

theorem p6 (v37 v38 : FVec Ideal S1x1 .f32) :
    k0_pay6 v37 v38 (ix3 0 0 0) = v37 (ix2 0 0) ∧ k0_pay6 v37 v38 (ix3 0 0 1) = v38 (ix2 0 0) := by
  constructor
  · pointwise [k0_pay6, k0_pay1, k0_pay2, k0_pay3]
  · pointwise [k0_pay6, k0_pay1, k0_pay2, k0_pay3]
    rfl

end Cert.GateKer

end
-- ==== Proof.GBlocks.lean ====
/-
  The blocks that a point of the gating call reads and writes.
-/
module

public import proofs.«01_k».proof.Proof.Gen.GatingIdeal.Value
public import proofs.«01_k».proof.Proof.GKer
public import Idealize.ShloMosaic.Lib.Pipeline.ValueKit
public import Idealize.ShloMosaic.Lib.StableHlo.RunRead
public import Idealize.ShloMosaic.Lib.Tactic

@[expose] public section

set_option maxRecDepth 16384

noncomputable section

namespace Cert.GateKer

open Cert.Gate Cert.GatingIdeal Cert.GatingIdeal.Gen Cert.GatingIdeal.Value Idealize.ShloMosaic Idealize.ShloMosaic.TcCoe Idealize.ShloMosaic.Tactic

variable (m : (ℓ : Loc nD τ sig) → Buf (Elt Ideal) ℓ) (c : Dev nD)

/-- The point of image `b`. -/
def pt (b : Fin 8) : Fin grid0.N := ⟨b.val, by show b.val < 8; omega⟩

theorem tr0 : ∀ b : Fin 8, cc0_transform_0 (grid0.coords (pt b)) = ![b.val, 0, 0] := by decide +kernel
theorem tr1 : ∀ b : Fin 8, cc0_transform_1 (grid0.coords (pt b)) = ![0, 0] := by decide +kernel
theorem tr2 : ∀ b : Fin 8, cc0_transform_2 (grid0.coords (pt b)) = ![0, 0] := by decide +kernel
theorem tr3 : ∀ b : Fin 8, cc0_transform_3 (grid0.coords (pt b)) = ![b.val, 0, 0] := by decide +kernel
theorem tr4 : ∀ b : Fin 8, cc0_transform_4 (grid0.coords (pt b)) = ![b.val, 0, 0] := by decide +kernel
theorem tr5 : ∀ b : Fin 8, cc0_transform_5 (grid0.coords (pt b)) = ![b.val, 0, 0] := by decide +kernel

theorem iblk0 (b : Fin 8) (ci : Fin 96) (p : Fin 3136) :
    (iblk m c 0 (pt b) : Vec Ideal S1x96x3136 .f32) (ix3 0 ci p) = (V m c main_v0 : FVec Ideal S8x96x3136 .f32) (ix3 b ci p) := by
  show (V m c main_v0 : FVec Ideal S8x96x3136 .f32) (((cfg0.win 0).blk (pt b)).view.emb (ix3 0 ci p)) = _
  congr 1
  funext a
  refine Fin.ext ?_
  match a with
  | ⟨0, _⟩ => show cc0_transform_0 (grid0.coords (pt b)) 0 * 1 + 1 * 0 = b.val; rw [tr0]; show b.val * 1 + 1 * 0 = _; omega
  | ⟨1, _⟩ => show cc0_transform_0 (grid0.coords (pt b)) 1 * 96 + 1 * ci.val = ci.val; rw [tr0]; show 0 * 96 + 1 * ci.val = _; omega
  | ⟨2, _⟩ => show cc0_transform_0 (grid0.coords (pt b)) 2 * 3136 + 1 * p.val = p.val; rw [tr0]; show 0 * 3136 + 1 * p.val = _; omega

theorem iblk1 (b : Fin 8) (e : Fin 8) (ci : Fin 96) :
    (iblk m c 1 (pt b) : Vec Ideal S8x96 .f32) (ix2 e ci) = (V m c main_arg1 : FVec Ideal S8x96 .f32) (ix2 e ci) := by
  show (V m c main_arg1 : FVec Ideal S8x96 .f32) (((cfg0.win 1).blk (pt b)).view.emb (ix2 e ci)) = _
  congr 1
  funext a
  refine Fin.ext ?_
  match a with
  | ⟨0, _⟩ => show cc0_transform_1 (grid0.coords (pt b)) 0 * 8 + 1 * e.val = e.val; rw [tr1]; show 0 * 8 + 1 * e.val = _; omega
  | ⟨1, _⟩ => show cc0_transform_1 (grid0.coords (pt b)) 1 * 96 + 1 * ci.val = ci.val; rw [tr1]; show 0 * 96 + 1 * ci.val = _; omega

theorem iblk2 (b : Fin 8) (e : Fin 8) :
    (iblk m c 2 (pt b) : Vec Ideal S8x1 .f32) (ix2 e 0) = (V m c main_v1 : FVec Ideal S8x1 .f32) (ix2 e 0) := by
  show (V m c main_v1 : FVec Ideal S8x1 .f32) (((cfg0.win 2).blk (pt b)).view.emb (ix2 e 0)) = _
  congr 1
  funext a
  refine Fin.ext ?_
  match a with
  | ⟨0, _⟩ => show cc0_transform_2 (grid0.coords (pt b)) 0 * 8 + 1 * e.val = e.val; rw [tr2]; show 0 * 8 + 1 * e.val = _; omega
  | ⟨1, _⟩ => show cc0_transform_2 (grid0.coords (pt b)) 1 * 1 + 1 * 0 = 0; rw [tr2]; rfl

theorem V_v0 : V m c main_v0 = (shapeCast S8x96x3136 (m ((c : Thread nD τ).loc main_arg0)) shapeCasts_S8x96x56x56_S8x96x3136 : FVec Ideal S8x96x3136 .f32) := by
  show StableHlo.after (hostOps0) (fun b => m (c, b)) (Proc.devRef .tc main_v0) = _
  after_reads_simp
  rfl

theorem V_v1 : V m c main_v1 = (shapeCast S8x1 (m ((c : Thread nD τ).loc main_arg2)) shapeCasts_S8_S8x1 : FVec Ideal S8x1 .f32) := by
  show StableHlo.after (hostOps0) (fun b => m (c, b)) (Proc.devRef .tc main_v1) = _
  after_reads_simp
  rfl

theorem fl3 : ∀ b : Fin 8, (cfg0.win 3).flush (pt b) = true := by decide +kernel
theorem fl4 : ∀ b : Fin 8, (cfg0.win 4).flush (pt b) = true := by decide +kernel
theorem fl5 : ∀ b : Fin 8, (cfg0.win 5).flush (pt b) = true := by decide +kernel

/-- The first output array after the launch, from what the points leave. -/
theorem arr3 (G : FVec Ideal S8x1x8 .f32)
    (hG : ∀ b e : Fin 8, out0_3 (iblk m c 0 (pt b)) (iblk m c 1 (pt b)) (iblk m c 2 (pt b)) (ix3 0 0 e) = G (ix3 b 0 e)) :
    (dats m 0 c).arrAt 3 cfg0.N = G := by
  refine (dats m 0 c).arrAt_eq_of_emb 3 G (fun t hf y => ?_) (fun (i : S8x1x8.Idx) => ?_)
  · have hN : t.val < 8 := t.isLt
    obtain ⟨b, hb⟩ : ∃ b : Fin 8, t = pt b := ⟨⟨t.val, hN⟩, Fin.ext rfl⟩
    subst hb
    have hy : ∀ y : S1x1x8.Idx, ∃ e : Fin 8, y = ix3 0 0 e := by
      intro y
      refine ⟨y 2, ?_⟩
      funext a
      match a with
      | ⟨0, _⟩ => exact Subsingleton.elim (α := Fin 1) _ _
      | ⟨1, _⟩ => exact Subsingleton.elim (α := Fin 1) _ _
      | ⟨2, _⟩ => rfl
    obtain ⟨e, rfl⟩ := hy y
    have q := congrFun (after0_3 m c (pt b)) (ix3 0 0 e)
    refine Eq.trans ?_ ((hG b e).trans (congrArg G ?_))
    · exact q
    · funext a
      refine Fin.ext ?_
      match a with
      | ⟨0, _⟩ => show b.val = cc0_transform_3 (grid0.coords (pt b)) 0 * 1 + 1 * 0; rw [tr3]; show _ = b.val * 1 + 1 * 0; omega
      | ⟨1, _⟩ => show 0 = cc0_transform_3 (grid0.coords (pt b)) 1 * 1 + 1 * 0; rw [tr3]; rfl
      | ⟨2, _⟩ => show e.val = cc0_transform_3 (grid0.coords (pt b)) 2 * 8 + 1 * e.val; rw [tr3]; show _ = 0 * 8 + 1 * e.val; omega
  · obtain ⟨b, hb⟩ : ∃ b : Fin 8, b = i 0 := ⟨i 0, rfl⟩
    have hb' : b.val = (i 0).val := congrArg Fin.val hb
    refine ⟨pt b, ?_, ?_⟩
    · exact fl3 b
    refine ((cfg0.win 3).emb_mem_blk_iff (pt b) i).mpr fun a => ?_
    match a with
    | ⟨0, _⟩ =>
      show cc0_transform_3 (grid0.coords (pt b)) 0 * 1 ≤ (i 0).val ∧ (i 0).val < cc0_transform_3 (grid0.coords (pt b)) 0 * 1 + 1
      rw [tr3]; show b.val * 1 ≤ (i 0).val ∧ (i 0).val < b.val * 1 + 1; omega
    | ⟨1, _⟩ =>
      show cc0_transform_3 (grid0.coords (pt b)) 1 * 1 ≤ (i 1).val ∧ (i 1).val < cc0_transform_3 (grid0.coords (pt b)) 1 * 1 + 1
      rw [tr3]; show 0 * 1 ≤ (i 1).val ∧ (i 1).val < 0 * 1 + 1; have : (i 1).val < 1 := (i 1).isLt; omega
    | ⟨2, _⟩ =>
      show cc0_transform_3 (grid0.coords (pt b)) 2 * 8 ≤ (i 2).val ∧ (i 2).val < cc0_transform_3 (grid0.coords (pt b)) 2 * 8 + 8
      rw [tr3]; show 0 * 8 ≤ (i 2).val ∧ (i 2).val < 0 * 8 + 8; have : (i 2).val < 8 := (i 2).isLt; omega

/-- The second output array after the launch, from what the points leave. -/
theorem arr4 (G : IVec S8x1x2 32)
    (hG : ∀ (b : Fin 8) (e : Fin 2), out0_4 (iblk m c 0 (pt b)) (iblk m c 1 (pt b)) (iblk m c 2 (pt b)) (ix3 0 0 e) = G (ix3 b 0 e)) :
    (dats m 0 c).arrAt 4 cfg0.N = G := by
  refine (dats m 0 c).arrAt_eq_of_emb 4 G (fun t hf y => ?_) (fun (i : S8x1x2.Idx) => ?_)
  · have hN : t.val < 8 := t.isLt
    obtain ⟨b, hb⟩ : ∃ b : Fin 8, t = pt b := ⟨⟨t.val, hN⟩, Fin.ext rfl⟩
    subst hb
    have hy : ∀ y : S1x1x2.Idx, ∃ e : Fin 2, y = ix3 0 0 e := by
      intro y
      refine ⟨y 2, ?_⟩
      funext a
      match a with
      | ⟨0, _⟩ => exact Subsingleton.elim (α := Fin 1) _ _
      | ⟨1, _⟩ => exact Subsingleton.elim (α := Fin 1) _ _
      | ⟨2, _⟩ => rfl
    obtain ⟨e, rfl⟩ := hy y
    have q := congrFun (after0_4 m c (pt b)) (ix3 0 0 e)
    refine Eq.trans ?_ ((hG b e).trans (congrArg G ?_))
    · exact q
    · funext a
      refine Fin.ext ?_
      match a with
      | ⟨0, _⟩ => show b.val = cc0_transform_4 (grid0.coords (pt b)) 0 * 1 + 1 * 0; rw [tr4]; show _ = b.val * 1 + 1 * 0; omega
      | ⟨1, _⟩ => show 0 = cc0_transform_4 (grid0.coords (pt b)) 1 * 1 + 1 * 0; rw [tr4]; rfl
      | ⟨2, _⟩ => show e.val = cc0_transform_4 (grid0.coords (pt b)) 2 * 2 + 1 * e.val; rw [tr4]; show _ = 0 * 2 + 1 * e.val; omega
  · obtain ⟨b, hb⟩ : ∃ b : Fin 8, b = i 0 := ⟨i 0, rfl⟩
    have hb' : b.val = (i 0).val := congrArg Fin.val hb
    refine ⟨pt b, ?_, ?_⟩
    · exact fl4 b
    refine ((cfg0.win 4).emb_mem_blk_iff (pt b) i).mpr fun a => ?_
    match a with
    | ⟨0, _⟩ =>
      show cc0_transform_4 (grid0.coords (pt b)) 0 * 1 ≤ (i 0).val ∧ (i 0).val < cc0_transform_4 (grid0.coords (pt b)) 0 * 1 + 1
      rw [tr4]; show b.val * 1 ≤ (i 0).val ∧ (i 0).val < b.val * 1 + 1; omega
    | ⟨1, _⟩ =>
      show cc0_transform_4 (grid0.coords (pt b)) 1 * 1 ≤ (i 1).val ∧ (i 1).val < cc0_transform_4 (grid0.coords (pt b)) 1 * 1 + 1
      rw [tr4]; show 0 * 1 ≤ (i 1).val ∧ (i 1).val < 0 * 1 + 1; have : (i 1).val < 1 := (i 1).isLt; omega
    | ⟨2, _⟩ =>
      show cc0_transform_4 (grid0.coords (pt b)) 2 * 2 ≤ (i 2).val ∧ (i 2).val < cc0_transform_4 (grid0.coords (pt b)) 2 * 2 + 2
      rw [tr4]; show 0 * 2 ≤ (i 2).val ∧ (i 2).val < 0 * 2 + 2; have : (i 2).val < 2 := (i 2).isLt; omega

/-- The third output array after the launch, from what the points leave. -/
theorem arr5 (G : FVec Ideal S8x1x2 .f32)
    (hG : ∀ (b : Fin 8) (e : Fin 2), out0_5 (iblk m c 0 (pt b)) (iblk m c 1 (pt b)) (iblk m c 2 (pt b)) (ix3 0 0 e) = G (ix3 b 0 e)) :
    (dats m 0 c).arrAt 5 cfg0.N = G := by
  refine (dats m 0 c).arrAt_eq_of_emb 5 G (fun t hf y => ?_) (fun (i : S8x1x2.Idx) => ?_)
  · have hN : t.val < 8 := t.isLt
    obtain ⟨b, hb⟩ : ∃ b : Fin 8, t = pt b := ⟨⟨t.val, hN⟩, Fin.ext rfl⟩
    subst hb
    have hy : ∀ y : S1x1x2.Idx, ∃ e : Fin 2, y = ix3 0 0 e := by
      intro y
      refine ⟨y 2, ?_⟩
      funext a
      match a with
      | ⟨0, _⟩ => exact Subsingleton.elim (α := Fin 1) _ _
      | ⟨1, _⟩ => exact Subsingleton.elim (α := Fin 1) _ _
      | ⟨2, _⟩ => rfl
    obtain ⟨e, rfl⟩ := hy y
    have q := congrFun (after0_5 m c (pt b)) (ix3 0 0 e)
    refine Eq.trans ?_ ((hG b e).trans (congrArg G ?_))
    · exact q
    · funext a
      refine Fin.ext ?_
      match a with
      | ⟨0, _⟩ => show b.val = cc0_transform_5 (grid0.coords (pt b)) 0 * 1 + 1 * 0; rw [tr5]; show _ = b.val * 1 + 1 * 0; omega
      | ⟨1, _⟩ => show 0 = cc0_transform_5 (grid0.coords (pt b)) 1 * 1 + 1 * 0; rw [tr5]; rfl
      | ⟨2, _⟩ => show e.val = cc0_transform_5 (grid0.coords (pt b)) 2 * 2 + 1 * e.val; rw [tr5]; show _ = 0 * 2 + 1 * e.val; omega
  · obtain ⟨b, hb⟩ : ∃ b : Fin 8, b = i 0 := ⟨i 0, rfl⟩
    have hb' : b.val = (i 0).val := congrArg Fin.val hb
    refine ⟨pt b, ?_, ?_⟩
    · exact fl5 b
    refine ((cfg0.win 5).emb_mem_blk_iff (pt b) i).mpr fun a => ?_
    match a with
    | ⟨0, _⟩ =>
      show cc0_transform_5 (grid0.coords (pt b)) 0 * 1 ≤ (i 0).val ∧ (i 0).val < cc0_transform_5 (grid0.coords (pt b)) 0 * 1 + 1
      rw [tr5]; show b.val * 1 ≤ (i 0).val ∧ (i 0).val < b.val * 1 + 1; omega
    | ⟨1, _⟩ =>
      show cc0_transform_5 (grid0.coords (pt b)) 1 * 1 ≤ (i 1).val ∧ (i 1).val < cc0_transform_5 (grid0.coords (pt b)) 1 * 1 + 1
      rw [tr5]; show 0 * 1 ≤ (i 1).val ∧ (i 1).val < 0 * 1 + 1; have : (i 1).val < 1 := (i 1).isLt; omega
    | ⟨2, _⟩ =>
      show cc0_transform_5 (grid0.coords (pt b)) 2 * 2 ≤ (i 2).val ∧ (i 2).val < cc0_transform_5 (grid0.coords (pt b)) 2 * 2 + 2
      rw [tr5]; show 0 * 2 ≤ (i 2).val ∧ (i 2).val < 0 * 2 + 2; have : (i 2).val < 2 := (i 2).isLt; omega

end Cert.GateKer

end
-- ==== Proof.GValue.lean ====
/-
  The gating call's kernel and its reference compute the same arrays.
-/
module

public import proofs.«01_k».proof.Proof.GBlocks
public import proofs.«01_k».proof.Proof.GRef

@[expose] public section

set_option maxRecDepth 16384

noncomputable section

namespace Cert.GateKer

open Cert.Gate Cert.GatingIdeal Cert.GatingIdeal.Gen Idealize.ShloMosaic Idealize.ShloMosaic.TcCoe

/-! ## What a point leaves, from the blocks it reads -/

section
variable (x0 : FVec Ideal S1x96x3136 .f32) (x1 : FVec Ideal S8x96 .f32) (x2 : FVec Ideal S8x1 .f32)

theorem zero3 : (![0, 0, 0] : Fin 3 → ℕ) = fun _ => 0 := by funext a; fin_cases a <;> rfl
theorem zero2 : (![0, 0] : Fin 2 → ℕ) = fun _ => 0 := by funext a; fin_cases a <;> rfl

theorem ld0 : View.ld (Val := Elt Ideal) (e' := .f32) x0 r0_0 = x0 := View.ld_unit_zero (Val := Elt Ideal) (e := .f32) zero3 _ x0
theorem ld1 : View.ld (Val := Elt Ideal) (e' := .f32) x1 r0_1 = x1 := View.ld_unit_zero (Val := Elt Ideal) (e := .f32) zero2 _ x1
theorem ld2 : View.ld (Val := Elt Ideal) (e' := .f32) x2 r0_2 = x2 := View.ld_unit_zero (Val := Elt Ideal) (e := .f32) zero2 _ x2

theorem out3 : out0_3 (F := Ideal) x0 x1 x2
    = k0_pay4 (k0_pay12 (F := Ideal) x0 x1 x2) (k0_pay14 (F := Ideal) x0 x1 x2) (k0_pay15 (F := Ideal) x0 x1 x2) (k0_pay16 (F := Ideal) x0 x1 x2) := by
  unfold out0_3 k0_pay20 k0_pay19 k0_pay18 k0_pay17
  rw [ld0, ld1, ld2]
  exact View.canon_unit_zero zero3 _ _

theorem out4 : out0_4 (F := Ideal) x0 x1 x2 = k0_pay5 (k0_pay12 (F := Ideal) x0 x1 x2) (k0_pay16 (F := Ideal) x0 x1 x2) := by
  unfold out0_4 k0_pay20 k0_pay17
  rw [ld0, ld1, ld2]
  exact View.canon_unit_zero zero3 _ _

theorem out5 : out0_5 (F := Ideal) x0 x1 x2 = k0_pay6 (k0_pay14 (F := Ideal) x0 x1 x2) (k0_pay15 (F := Ideal) x0 x1 x2) := by
  unfold out0_5 k0_pay19 k0_pay18
  rw [ld0, ld1, ld2]
  exact View.canon_unit_zero zero3 _ _

end

/-! ## The logits -/

theorem sum_real {ι : Type} [Fintype ι] (f : ι → EReal) (h : ∀ i, ∃ r : ℝ, f i = (r : EReal)) : ∃ r : ℝ, ∑ i, f i = (r : EReal) := by
  choose g hg using h
  refine ⟨∑ i, g i, ?_⟩
  rw [show f = fun i => ((g i : ℝ) : EReal) from funext hg]
  induction (Finset.univ : Finset ι) using Finset.cons_induction with
  | empty => simp
  | cons a s ha ih => rw [Finset.sum_cons, Finset.sum_cons, ih, EReal.coe_add]

theorem div_real (a : EReal) (r : ℝ) (h : r ≠ 0) : Ideal.div a (r : EReal) = a * ((r⁻¹ : ℝ) : EReal) := by
  unfold Ideal.div
  rw [if_neg (by simpa using h), EReal.coe_inv]

theorem sum_pix (f : Fin 56 → Fin 56 → EReal) :
    ∑ p : Fin 3136, f ⟨p.val / 56, by omega⟩ ⟨p.val % 56, by omega⟩ = ∑ y : Fin 56, ∑ z : Fin 56, f y z := by
  rw [← Fintype.sum_prod_type']
  symm
  refine Fintype.sum_equiv (finProdFinEquiv (m := 56) (n := 56)) _ _ fun q => ?_
  obtain ⟨y, z⟩ := q
  have h1 : (z.val + 56 * y.val) / 56 = y.val := by omega
  have h2 : (z.val + 56 * y.val) % 56 = z.val := by omega
  exact congrArg₂ f (Fin.ext h1.symm) (Fin.ext h2.symm)

variable (x : FVec Ideal S8x96x56x56 .f32) (wg : FVec Ideal S8x96 .f32) (bg : FVec Ideal S8 .f32)

theorem logit_eq (v0 : FVec Ideal S1x96x3136 .f32) (v6 : FVec Ideal S8x96 .f32) (v8 : FVec Ideal S8x1 .f32) (b : Fin 8)
    (h0 : ∀ (c : Fin 96) (p : Fin 3136), v0 (ix3 0 c p) = x (ix4 b c ⟨p.val / 56, by omega⟩ ⟨p.val % 56, by omega⟩))
    (h1 : ∀ (e : Fin 8) (c : Fin 96), v6 (ix2 e c) = wg (ix2 e c)) (h2 : ∀ e : Fin 8, v8 (ix2 e 0) = bg (ix1 e)) (e : Fin 8) :
    k0_pay7 (F := Ideal) v0 v6 v8 (ix2 e 0) = Cert.GateRef.logits x wg bg (ix2 b e) := by
  rw [p7, Cert.GateRef.logits_apply, h2]
  refine congrArg (· + bg (ix1 e)) (Finset.sum_congr rfl fun c _ => ?_)
  rw [Cert.GateRef.pool_apply, div_real _ _ (by norm_num), h1, mul_comm, ← sum_pix fun y z => x (ix4 b c y z)]
  simp only [h0]

theorem logit_real (hx : ∀ i : S8x96x56x56.Idx, ∃ r : ℝ, x i = (r : EReal)) (hw : ∀ i : S8x96.Idx, ∃ r : ℝ, wg i = (r : EReal))
    (hb : ∀ i : S8.Idx, ∃ r : ℝ, bg i = (r : EReal)) (b e : Fin 8) : ∃ r : ℝ, Cert.GateRef.logits x wg bg (ix2 b e) = (r : EReal) := by
  rw [Cert.GateRef.logits_apply]
  obtain ⟨r2, h2⟩ := hb (ix1 e)
  obtain ⟨r1, h1⟩ := sum_real (fun c : Fin 96 => Cert.GateRef.pool x (ix2 b c) * wg (ix2 e c)) fun c => by
    obtain ⟨s, hs⟩ := sum_real (fun y : Fin 56 => ∑ z : Fin 56, x (ix4 b c y z)) fun y => sum_real _ fun z => hx _
    obtain ⟨w, hw⟩ := hw (ix2 e c)
    rw [Cert.GateRef.pool_apply, div_real _ _ (by norm_num), hs, hw]
    exact ⟨s * 3136⁻¹ * w, by push_cast; rfl⟩
  exact ⟨r1 + r2, by rw [h1, h2, EReal.coe_add]⟩

/-! ## The weights -/

theorem weights (L : FVec Ideal Cert.GatingReferenceIdeal.S8x8 .f32) (b : Fin 8) (hr : ∀ e : Fin 8, ∃ r : ℝ, L (ix2 b e) = (r : EReal)) :
    Cert.GateRef.norm (Cert.GateRef.expo (Cert.GateRef.vals L)) (ix2 b 0)
        = Ideal.div 1 (1 + Ideal.exp (L (ix2 b (ord (fun e => L (ix2 b e)) 1)) - L (ix2 b (ord (fun e => L (ix2 b e)) 0))))
      ∧ Cert.GateRef.norm (Cert.GateRef.expo (Cert.GateRef.vals L)) (ix2 b 1)
        = Ideal.exp (L (ix2 b (ord (fun e => L (ix2 b e)) 1)) - L (ix2 b (ord (fun e => L (ix2 b e)) 0)))
          * Ideal.div 1 (1 + Ideal.exp (L (ix2 b (ord (fun e => L (ix2 b e)) 1)) - L (ix2 b (ord (fun e => L (ix2 b e)) 0)))) := by
  have hle : L (ix2 b (ord (fun e => L (ix2 b e)) 1)) ≤ L (ix2 b (ord (fun e => L (ix2 b e)) 0)) := by
    rcases ord_lt (fun e => L (ix2 b e)) 0 1 (by decide) with q | q
    · exact q.le
    · exact q.1.le
  have v0 : Cert.GateRef.vals L (ix2 b 0) = L (ix2 b (ord (fun e => L (ix2 b e)) 0)) := Cert.GateRef.vals_apply L b 0
  have v1 : Cert.GateRef.vals L (ix2 b 1) = L (ix2 b (ord (fun e => L (ix2 b e)) 1)) := Cert.GateRef.vals_apply L b 1
  obtain ⟨l0, h0⟩ := hr (ord (fun e => L (ix2 b e)) 0)
  obtain ⟨l1, h1⟩ := hr (ord (fun e => L (ix2 b e)) 1)
  have e0 : Cert.GateRef.expo (Cert.GateRef.vals L) (ix2 b 0) = 1 := by
    rw [Cert.GateRef.expo_apply, v0, v1, max_eq_left hle, h0, ← EReal.coe_sub, sub_self]
    show ((Real.exp 0 : ℝ) : EReal) = 1
    rw [Real.exp_zero]; rfl
  have e1 : Cert.GateRef.expo (Cert.GateRef.vals L) (ix2 b 1) = ((Real.exp (l1 - l0) : ℝ) : EReal) := by
    rw [Cert.GateRef.expo_apply, v0, v1, max_eq_left hle, h0, h1, ← EReal.coe_sub]
    rfl
  have e2 : Ideal.exp (L (ix2 b (ord (fun e => L (ix2 b e)) 1)) - L (ix2 b (ord (fun e => L (ix2 b e)) 0))) = ((Real.exp (l1 - l0) : ℝ) : EReal) := by
    rw [h0, h1, ← EReal.coe_sub]
    rfl
  have e3 : (1 : EReal) + ((Real.exp (l1 - l0) : ℝ) : EReal) = ((1 + Real.exp (l1 - l0) : ℝ) : EReal) := by
    rw [EReal.coe_add]; rfl
  have hn : 1 + Real.exp (l1 - l0) ≠ 0 := by positivity
  constructor
  · rw [Cert.GateRef.norm_apply, e0, e1, e2]
  · rw [Cert.GateRef.norm_apply, e0, e1, e2, e3, div_real _ _ hn, div_real _ _ hn, one_mul]

/-! ## A point's outputs are the reference's rows -/

theorem row8 (f : FVec Ideal Cert.GatingReferenceIdeal.S8x8 .f32) (b e : Fin 8) :
    (shapeCast Cert.GatingReferenceIdeal.S8x1x8 f Cert.GatingReferenceIdeal.Gen.shapeCasts_S8x8_S8x1x8 : FVec Ideal Cert.GatingReferenceIdeal.S8x1x8 .f32) (ix3 b 0 e) = f (ix2 b e) := by
  pointwise []

theorem row2 (f : FVec Ideal Cert.GatingReferenceIdeal.S8x2 .f32) (b : Fin 8) (e : Fin 2) :
    (shapeCast Cert.GatingReferenceIdeal.S8x1x2 f Cert.GatingReferenceIdeal.Gen.shapeCasts_S8x2_S8x1x2 : FVec Ideal Cert.GatingReferenceIdeal.S8x1x2 .f32) (ix3 b 0 e) = f (ix2 b e) := by
  pointwise []

theorem row2I (f : IVec Cert.GatingReferenceIdeal.S8x2 32) (b : Fin 8) (e : Fin 2) :
    (shapeCast Cert.GatingReferenceIdeal.S8x1x2 f Cert.GatingReferenceIdeal.Gen.shapeCasts_S8x2_S8x1x2 : IVec Cert.GatingReferenceIdeal.S8x1x2 32) (ix3 b 0 e) = f (ix2 b e) := by
  pointwise []

theorem word_nat (a : Fin 8) : (BitVec.ofNat 32 a.val).toNat = a.val := by
  revert a
  decide

theorem cell3 (L : FVec Ideal Cert.GatingReferenceIdeal.S8x8 .f32) (b : Fin 8) (w : FVec Ideal Cert.GatingReferenceIdeal.S8x2 .f32) (e : Fin 8) :
    Cert.GateRef.ew (Cert.GateRef.inds L) w (ix2 b e)
      = (if e = ord (fun e => L (ix2 b e)) 0 then w (ix2 b 0) else 0) + if e = ord (fun e => L (ix2 b e)) 1 then w (ix2 b 1) else 0 := by
  have i0 : Cert.GateRef.inds L (ix2 b 0) = BitVec.ofNat 32 (ord (fun e => L (ix2 b e)) 0).val := Cert.GateRef.inds_apply L b 0
  have i1 : Cert.GateRef.inds L (ix2 b 1) = BitVec.ofNat 32 (ord (fun e => L (ix2 b e)) 1).val := Cert.GateRef.inds_apply L b 1
  have hne := ord_ne fun e => L (ix2 b e)
  rw [Cert.GateRef.ew_apply (Cert.GateRef.inds L) w ?_ b ?_ e, i0, i1, word_nat, word_nat]
  · simp only [← Fin.ext_iff]
    by_cases q1 : e = ord (fun e => L (ix2 b e)) 1
    · rw [if_pos q1, if_pos q1, if_neg (q1 ▸ hne), zero_add]
    · rw [if_neg q1, if_neg q1, add_zero]
  · intro i
    obtain ⟨b', k, rfl⟩ : ∃ (b' : Fin 8) (k : Fin 2), i = ix2 b' k := ⟨i 0, i 1, by
      funext a
      match a with
      | ⟨0, _⟩ => rfl
      | ⟨1, _⟩ => rfl⟩
    rw [Cert.GateRef.inds_apply, word_nat]
    exact (ord _ _).isLt
  · rw [i0, i1, word_nat, word_nat]
    exact fun q => hne (Fin.ext q.symm)

section
variable (x0 : FVec Ideal S1x96x3136 .f32) (x1 : FVec Ideal S8x96 .f32) (x2 : FVec Ideal S8x1 .f32)
  (L : FVec Ideal Cert.GatingReferenceIdeal.S8x8 .f32) (b : Fin 8) (hr : ∀ e : Fin 8, ∃ r : ℝ, L (ix2 b e) = (r : EReal))
  (hL : ∀ e : Fin 8, k0_pay7 (F := Ideal) x0 x1 x2 (ix2 e 0) = L (ix2 b e))
include hr hL

theorem point3 (e : Fin 8) : out0_3 (F := Ideal) x0 x1 x2 (ix3 0 0 e)
    = (shapeCast Cert.GatingReferenceIdeal.S8x1x8 (Cert.GateRef.ew (Cert.GateRef.inds L) (Cert.GateRef.norm (Cert.GateRef.expo (Cert.GateRef.vals L)))) Cert.GatingReferenceIdeal.Gen.shapeCasts_S8x8_S8x1x8 : FVec Ideal Cert.GatingReferenceIdeal.S8x1x8 .f32) (ix3 b 0 e) := by
  have hf : L (ix2 b (ord (fun e => L (ix2 b e)) 1)) ≠ ⊥ := by
    obtain ⟨r, h⟩ := hr (ord (fun e => L (ix2 b e)) 1)
    rw [h]; exact EReal.coe_ne_bot r
  rw [row8, cell3, (weights L b hr).1, (weights L b hr).2, out3,
    p4 _ _ _ _ _ _ (p16 x0 x1 x2 (fun e => L (ix2 b e)) hL) (p12 x0 x1 x2 (fun e => L (ix2 b e)) hL hf) e,
    p14 x0 x1 x2 (fun e => L (ix2 b e)) hL, p15 x0 x1 x2 (fun e => L (ix2 b e)) hL]

theorem point4 (k : Fin 2) : out0_4 (F := Ideal) x0 x1 x2 (ix3 0 0 k)
    = (shapeCast Cert.GatingReferenceIdeal.S8x1x2 (Cert.GateRef.inds L) Cert.GatingReferenceIdeal.Gen.shapeCasts_S8x2_S8x1x2 : IVec Cert.GatingReferenceIdeal.S8x1x2 32) (ix3 b 0 k) := by
  have hf : L (ix2 b (ord (fun e => L (ix2 b e)) 1)) ≠ ⊥ := by
    obtain ⟨r, h⟩ := hr (ord (fun e => L (ix2 b e)) 1)
    rw [h]; exact EReal.coe_ne_bot r
  rw [row2I, out4]
  obtain rfl | rfl : k = 0 ∨ k = 1 := by omega
  · exact ((p5 _ _).1.trans (p16 x0 x1 x2 (fun e => L (ix2 b e)) hL)).trans (Cert.GateRef.inds_apply L b 0).symm
  · exact ((p5 _ _).2.trans (p12 x0 x1 x2 (fun e => L (ix2 b e)) hL hf)).trans (Cert.GateRef.inds_apply L b 1).symm

theorem point5 (k : Fin 2) : out0_5 (F := Ideal) x0 x1 x2 (ix3 0 0 k)
    = (shapeCast Cert.GatingReferenceIdeal.S8x1x2 (Cert.GateRef.norm (Cert.GateRef.expo (Cert.GateRef.vals L))) Cert.GatingReferenceIdeal.Gen.shapeCasts_S8x2_S8x1x2 : FVec Ideal Cert.GatingReferenceIdeal.S8x1x2 .f32) (ix3 b 0 k) := by
  rw [row2, out5]
  obtain rfl | rfl : k = 0 ∨ k = 1 := by omega
  · exact ((p6 _ _).1.trans (p14 x0 x1 x2 (fun e => L (ix2 b e)) hL)).trans (weights L b hr).1.symm
  · exact ((p6 _ _).2.trans (p15 x0 x1 x2 (fun e => L (ix2 b e)) hL)).trans (weights L b hr).2.symm

end

/-! ## The launch -/

theorem cut_x (f : FVec Ideal S8x96x56x56 .f32) (b : Fin 8) (c : Fin 96) (p : Fin 3136) :
    (shapeCast S8x96x3136 f shapeCasts_S8x96x56x56_S8x96x3136 : FVec Ideal S8x96x3136 .f32) (ix3 b c p)
      = f (ix4 b c ⟨p.val / 56, by omega⟩ ⟨p.val % 56, by omega⟩) := by
  pointwise []

theorem cut_b (f : FVec Ideal S8 .f32) (e : Fin 8) :
    (shapeCast S8x1 f shapeCasts_S8_S8x1 : FVec Ideal S8x1 .f32) (ix2 e 0) = f (ix1 e) := by
  pointwise []

variable (m : (ℓ : Loc nD τ sig) → Buf (Elt Ideal) ℓ) (d : Dev nD)

theorem logits_pt (b e : Fin 8) :
    k0_pay7 (F := Ideal) (iblk m d 0 (pt b)) (iblk m d 1 (pt b)) (iblk m d 2 (pt b)) (ix2 e 0)
      = Cert.GateRef.logits (m ((d : Thread nD τ).loc main_arg0)) (m ((d : Thread nD τ).loc main_arg1)) (m ((d : Thread nD τ).loc main_arg2)) (ix2 b e) :=
  logit_eq _ _ _ (iblk m d 0 (pt b)) (iblk m d 1 (pt b)) (iblk m d 2 (pt b)) b
    (fun c p => ((iblk0 m d b c p).trans (congrFun (V_v0 m d) (ix3 b c p))).trans (cut_x _ b c p))
    (fun e c => (iblk1 m d b e c).trans (congrFun (V_main_arg1 m d) (ix2 e c)))
    (fun e => ((iblk2 m d b e).trans (congrFun (V_v1 m d) (ix2 e 0))).trans (cut_b _ e)) e

end Cert.GateKer

end
-- ==== Proof.lean ====
/-
  The proof of the claim: the frames of the two calls and of their references, the named constants, and the equality of
  each call with its reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Ref
public import proofs.«01_k».proof.Proof.Gen.Gating
public import proofs.«01_k».proof.Proof.Gen.Gating.Frame
public import proofs.«01_k».proof.Proof.Gen.GatingIdeal
public import proofs.«01_k».proof.Proof.Gen.GatingIdeal.Frame
public import proofs.«01_k».proof.Proof.Gen.GatingIdeal.Value
public import proofs.«01_k».proof.Proof.Gen.GatingReferenceIdeal
public import proofs.«01_k».proof.Proof.Gen.GatingReferenceIdeal.Run
public import proofs.«01_k».proof.Proof.Gen.Pre_in_range
public import proofs.«01_k».proof.Proof.Table
public import proofs.«01_k».proof.Proof.WordTable
public import proofs.«01_k».proof.Proof.Routed
public import proofs.«01_k».proof.Proof.KRun
public import proofs.«01_k».proof.Proof.KValue
public import proofs.«01_k».proof.Proof.GFinite
public import proofs.«01_k».proof.Proof.GRef
public import proofs.«01_k».proof.Proof.GValue
public import Idealize.ShloMosaic.Adequacy
public import Idealize.ShloMosaic.Lib.Quiescent
public import Idealize.ShloMosaic.Init

@[expose] public section

noncomputable section

namespace Cert.Proof

open Idealize.ShloMosaic Idealize.SL.Sem

theorem frame_Kernel : Cert.quiescent_Kernel := fun m g h =>
  Cert.Kernel.Gen.frame m g (Cert.Kernel.Gen.ok_of_lt m (Cert.Kernel.Gen.lt_of_in_range _ _ _ _ _ _ _ _ _ _ _ _ _ (h 0)))

theorem frame_KernelIdeal : Cert.quiescent_KernelIdeal := fun m g h =>
  Cert.KernelIdeal.Gen.frame m g (Cert.KernelIdeal.Gen.ok_of_lt m (Cert.KernelIdeal.Gen.lt_of_in_range _ _ _ _ _ _ _ _ _ _ _ _ _ (h 0)))

theorem frame_GatingReferenceIdeal : Cert.quiescent_GatingReferenceIdeal := fun m g _ =>
  (θ_run Cert.GatingReferenceIdeal.defs _ _).mono (fun r h => ⟨fun c => (h c).2.2.2, sem_eq_zero_of_no_sems (by decide) r.2⟩)
    (Cert.GatingReferenceIdeal.Value.run m g)

theorem frame_KernelIdeal_routed : Cert.quiescent_KernelIdeal_pre_routed := fun m g h =>
  Cert.KernelIdeal.Gen.frame m g (Cert.KernelIdeal.Gen.ok_of_lt m (Cert.Pre_routed.parts _ _ _ _ _ _ _ _ _ _ _ _ _ (h 0)).1)

theorem algebraic_expert : Cert.algebraic_KernelIdeal_ReferenceIdeal_pre_routed := by
  intro m g m' g' hpre hargs
  obtain ⟨hT, hne, hg1, hm1, hv1, hg2, hm2, hv2⟩ := Cert.Pre_routed.parts _ _ _ _ _ _ _ _ _ _ _ _ _ (hpre 0)
  have hO := Cert.KernelIdeal.Gen.ok_of_lt m hT
  refine ⟨fun c => Cert.KernelIdeal.Gen.final m hO c Cert.KernelIdeal.main_v22, Cert.KernelIdeal.Gen.run_value m g hO, ?_⟩
  refine (θ_run Cert.ReferenceIdeal.defs _ _).mono (fun r h c => ⟨(h.1 c).1.trans ?_, (h.1 c).2⟩) (Cert.RefRun.run m' g')
  obtain rfl : c = 0 := Subsingleton.elim _ _
  obtain ⟨e0, e1, e2, e3, e4, e5, e6, e7, e8, e9, e10, e11, e12⟩ := hargs 0
  rw [e0, e1, e2, e3, e4, e5, e6, e7, e8, e9, e10, e11, e12]
  exact (Cert.KernelIdeal.Gen.value m hO 0 hT hg1 hm1 hv1 hg2 hm2 hv2 hne).symm

theorem frame_GatingReferenceIdeal_finite : Cert.quiescent_GatingReferenceIdeal_pre_finite := fun m g _ =>
  (θ_run Cert.GatingReferenceIdeal.defs _ _).mono (fun r h => ⟨fun c => (h c).2.2.2, sem_eq_zero_of_no_sems (by decide) r.2⟩)
    (Cert.GatingReferenceIdeal.Value.run m g)

theorem algebraic_gating : Cert.algebraic_GatingIdeal_GatingReferenceIdeal_pre_finite := by
  intro m g m' g' hpre hargs
  obtain ⟨hx, hw, hb⟩ := Cert.Pre_finite.parts _ _ _ (hpre 0)
  have hr := fun b e => Cert.GateKer.logit_real _ _ _ hx hw hb b e
  refine ⟨_, _, _, Cert.GatingIdeal.Value.run_blocks m g, ?_⟩
  refine (θ_run Cert.GatingReferenceIdeal.defs _ _).mono (fun r h c => ⟨(h c).1.trans ?_, (h c).2.1.trans ?_, (h c).2.2.1.trans ?_, (h c).2.2.2⟩) (Cert.GateRef.run m' g')
  all_goals
    obtain rfl : c = 0 := Subsingleton.elim _ _
    obtain ⟨e0, e1, e2⟩ := hargs 0
    unfold Cert.GateRef.logM
    rw [e0, e1, e2]
    symm
  · exact Cert.GateKer.arr3 m 0 _ fun b e => Cert.GateKer.point3 _ _ _ _ b (hr b) (fun e => Cert.GateKer.logits_pt m 0 b e) e
  · exact Cert.GateKer.arr4 m 0 _ fun b k => Cert.GateKer.point4 _ _ _ _ b (hr b) (fun e => Cert.GateKer.logits_pt m 0 b e) k
  · exact Cert.GateKer.arr5 m 0 _ fun b k => Cert.GateKer.point5 _ _ _ _ b (hr b) (fun e => Cert.GateKer.logits_pt m 0 b e) k

theorem claim : Cert.Claim := ⟨Cert.Kernel.Gen.facts, Cert.KernelIdeal.Gen.facts, Cert.ReferenceIdeal.Gen.facts, Cert.Gating.Gen.facts, Cert.GatingIdeal.Gen.facts, Cert.GatingReferenceIdeal.Gen.facts, Cert.Pre_in_range.Gen.facts, Cert.Pre_routed.facts, Cert.Pre_finite.facts,
  frame_Kernel, frame_KernelIdeal, frame_KernelIdeal_routed,
  fun m g _ => (θ_run Cert.ReferenceIdeal.defs _ _).mono (fun _ h => ⟨fun c => (h.1 c).2, h.2⟩) (Cert.RefRun.run m g),
  fun m g _ => (θ_run Cert.ReferenceIdeal.defs _ _).mono (fun _ h => ⟨fun c => (h.1 c).2, h.2⟩) (Cert.RefRun.run m g),
  fun m g _ => Cert.Gating.Gen.frame m g,
  fun m g _ => Cert.GatingIdeal.Gen.frame m g,
  fun m g _ => Cert.GatingIdeal.Gen.frame m g,
  frame_GatingReferenceIdeal,
  frame_GatingReferenceIdeal_finite,
  trivial, algebraic_expert,
  ⟨IdealRules.named_const.statement Cert.GatingIdeal.κ "inv_hw" .f32 0x39A72F05#32 _ rfl,
   IdealRules.named_const.statement Cert.GatingIdeal.κ "mask" .f32 0xF149F2CA#32 _ rfl⟩,
  algebraic_gating⟩

end Cert.Proof

end
